-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_clear_winner [hKernelIdeal : Cert.KernelIdeal.Facts] [hReferenceIdeal : Cert.ReferenceIdeal.Facts] [hOn_clear_winner : Cert.On_clear_winner.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 1]⟩ : Shape).Idx, (Cert.On_clear_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v11) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![128, 1]⟩ : Shape).Idx, (Cert.On_clear_winner.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v28) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_clear_winner : Cert.On_clear_winner.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_clear_winner (hKernelIdeal := hKernelIdeal) (hReferenceIdeal := hReferenceIdeal) (hOn_clear_winner := hOn_clear_winner)
-- ==== On_clear_winner.lean ====
abbrev S128x1024 : Shape := ⟨2, ![128, 1024]⟩
abbrev S1024x100000 : Shape := ⟨2, ![1024, 100000]⟩
abbrev S100000 : Shape := ⟨1, ![100000]⟩
abbrev S128x100000 : Shape := ⟨2, ![128, 100000]⟩
abbrev S1x100000 : Shape := ⟨2, ![1, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩

class Facts : Prop where
  bcast_S100000_S1x100000_1 : S100000.BroadcastsInDim S1x100000 (![1] : Fin 1 → Fin S1x100000.rank)
  bcast_S1x100000_S128x100000_0_1 : S1x100000.BroadcastsInDim S128x100000 (![0, 1] : Fin 2 → Fin S128x100000.rank)
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  bcast_S_S128x100000 : S_.BroadcastsInDim S128x100000 (![] : Fin 0 → Fin S128x100000.rank)
  natLt_32_64 : 32 < 64
  bcast_S1x1_S128x100000_0_1 : S1x1.BroadcastsInDim S128x100000 (![0, 1] : Fin 2 → Fin S128x100000.rank)
  reducesTo_S128x100000_S128_d1 : S128x100000.ReducesTo [1] S128
  h_S_ : 0 < S_.numel
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)
  bcast_S_S128 : S_.BroadcastsInDim S128 (![] : Fin 0 → Fin S128.rank)
  dot_S128x1024_S1024x100000_S128x100000_1_0_0_1_n_n_wf : DotDims.WF S128x1024 S1024x100000 S128x100000 [1] [0] [0] [1] [] []

variable [Facts]

variable {F : FTy → Type} [FloatOps F]
def dot_S128x1024_S1024x100000_S128x100000_1_0_0_1_n_n : DotDims S128x1024 S1024x100000 S128x100000 where
  lhsContracting := [1]
  rhsContracting := [0]
  lhsNonContracting := [0]
  rhsNonContracting := [1]
  lhsBatch := []
  rhsBatch := []
  wf := dot_S128x1024_S1024x100000_S128x100000_1_0_0_1_n_n_wf
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_threefry2x32_part9 {F : FTy → Type} [FloatOps F] (arg0 : IVec S_ 32) (v163 : IVec S128x100000 32) (v169 : IVec S128x100000 32) (v170 : IVec S128x100000 32) : IVec S128x100000 32 × IVec S128x100000 32 :=
  let v171 : IVec S128x100000 32 := addi v163 v170
  let v172 : IVec S128x100000 32 := broadcastInDim S128x100000 ![] bcast_S_S128x100000 arg0
  let v173 : IVec S128x100000 32 := addi v169 v172
  let c_44 : IVec S_ 32 := constantI S_ 32 5#32
  let v174 : IVec S128x100000 32 := broadcastInDim S128x100000 ![] bcast_S_S128x100000 c_44
  let v175 : IVec S128x100000 32 := addi v173 v174
  (v171, v175)

def fn_threefry2x32_part8 {F : FTy → Type} [FloatOps F] (arg0 : IVec S_ 32) (v1 : IVec S_ 32) (v148 : IVec S128x100000 32) (v149 : IVec S128x100000 32) (v151 : IVec S128x100000 32) : IVec S128x100000 32 × IVec S128x100000 32 :=
  let c_39 : IVec S_ 32 := constantI S_ 32 17#32
  let v152 : IVec S128x100000 32 := broadcastInDim S128x100000 ![] bcast_S_S128x100000 c_39
  let v153 : IVec S128x100000 32 := Host.shrui v148 v152
  let v154 : IVec S128x100000 32 := ori v151 v153
  let v155 : IVec S128x100000 32 := xori v149 v154
  let v156 : IVec S128x100000 32 := addi v149 v155
  let c_40 : IVec S_ 32 := constantI S_ 32 26#32
  let v157 : IVec S128x100000 32 := broadcastInDim S128x100000 ![] bcast_S_S128x100000 c_40
  let v158 : IVec S128x100000 32 := Host.shli v155 v157
  let c_41 : IVec S_ 32 := constantI S_ 32 6#32
  let v159 : IVec S128x100000 32 := broadcastInDim S128x100000 ![] bcast_S_S128x100000 c_41
  let v160 : IVec S128x100000 32 := Host.shrui v155 v159
  let v161 : IVec S128x100000 32 := ori v158 v160
  let v162 : IVec S128x100000 32 := xori v156 v161
  let v163 : IVec S128x100000 32 := addi v156 v162
  let c_42 : IVec S_ 32 := constantI S_ 32 6#32
  let v164 : IVec S128x100000 32 := broadcastInDim S128x100000 ![] bcast_S_S128x100000 c_42
  let v165 : IVec S128x100000 32 := Host.shli v162 v164
  let c_43 : IVec S_ 32 := constantI S_ 32 26#32
  let v166 : IVec S128x100000 32 := broadcastInDim S128x100000 ![] bcast_S_S128x100000 c_43
  let v167 : IVec S128x100000 32 := Host.shrui v162 v166
  let v168 : IVec S128x100000 32 := ori v165 v167
  let v169 : IVec S128x100000 32 := xori v163 v168
  let v170 : IVec S128x100000 32 := broadcastInDim S128x100000 ![] bcast_S_S128x100000 v1
  fn_threefry2x32_part9 (F := F) arg0 v163 v169 v170

def fn_threefry2x32_part7 {F : FTy → Type} [FloatOps F] (arg0 : IVec S_ 32) (arg1 : IVec S_ 32) (v1 : IVec S_ 32) (v128 : IVec S128x100000 32) (v129 : IVec S128x100000 32) (v131 : IVec S128x100000 32) (c_34 : IVec S_ 32) : IVec S128x100000 32 × IVec S128x100000 32 :=
  let v132 : IVec S128x100000 32 := broadcastInDim S128x100000 ![] bcast_S_S128x100000 c_34
  let v133 : IVec S128x100000 32 := Host.shrui v128 v132
  let v134 : IVec S128x100000 32 := ori v131 v133
  let v135 : IVec S128x100000 32 := xori v129 v134
  let v136 : IVec S128x100000 32 := broadcastInDim S128x100000 ![] bcast_S_S128x100000 arg1
  let v137 : IVec S128x100000 32 := addi v129 v136
  let v138 : IVec S128x100000 32 := broadcastInDim S128x100000 ![] bcast_S_S128x100000 v1
  let v139 : IVec S128x100000 32 := addi v135 v138
  let c_35 : IVec S_ 32 := constantI S_ 32 4#32
  let v140 : IVec S128x100000 32 := broadcastInDim S128x100000 ![] bcast_S_S128x100000 c_35
  let v141 : IVec S128x100000 32 := addi v139 v140
  let v142 : IVec S128x100000 32 := addi v137 v141
  let c_36 : IVec S_ 32 := constantI S_ 32 13#32
  let v143 : IVec S128x100000 32 := broadcastInDim S128x100000 ![] bcast_S_S128x100000 c_36
  let v144 : IVec S128x100000 32 := Host.shli v141 v143
  let c_37 : IVec S_ 32 := constantI S_ 32 19#32
  let v145 : IVec S128x100000 32 := broadcastInDim S128x100000 ![] bcast_S_S128x100000 c_37
  let v146 : IVec S128x100000 32 := Host.shrui v141 v145
  let v147 : IVec S128x100000 32 := ori v144 v146
  let v148 : IVec S128x100000 32 := xori v142 v147
  let v149 : IVec S128x100000 32 := addi v142 v148
  let c_38 : IVec S_ 32 := constantI S_ 32 15#32
  let v150 : IVec S128x100000 32 := broadcastInDim S128x100000 ![] bcast_S_S128x100000 c_38
  let v151 : IVec S128x100000 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S128x100000 32) (v113 : IVec S128x100000 32) : IVec S128x100000 32 × IVec S128x100000 32 :=
  let v114 : IVec S128x100000 32 := xori v108 v113
  let v115 : IVec S128x100000 32 := addi v108 v114
  let c_29 : IVec S_ 32 := constantI S_ 32 29#32
  let v116 : IVec S128x100000 32 := broadcastInDim S128x100000 ![] bcast_S_S128x100000 c_29
  let v117 : IVec S128x100000 32 := Host.shli v114 v116
  let c_30 : IVec S_ 32 := constantI S_ 32 3#32
  let v118 : IVec S128x100000 32 := broadcastInDim S128x100000 ![] bcast_S_S128x100000 c_30
  let v119 : IVec S128x100000 32 := Host.shrui v114 v118
  let v120 : IVec S128x100000 32 := ori v117 v119
  let v121 : IVec S128x100000 32 := xori v115 v120
  let v122 : IVec S128x100000 32 := addi v115 v121
  let c_31 : IVec S_ 32 := constantI S_ 32 16#32
  let v123 : IVec S128x100000 32 := broadcastInDim S128x100000 ![] bcast_S_S128x100000 c_31
  let v124 : IVec S128x100000 32 := Host.shli v121 v123
  let c_32 : IVec S_ 32 := constantI S_ 32 16#32
  let v125 : IVec S128x100000 32 := broadcastInDim S128x100000 ![] bcast_S_S128x100000 c_32
  let v126 : IVec S128x100000 32 := Host.shrui v121 v125
  let v127 : IVec S128x100000 32 := ori v124 v126
  let v128 : IVec S128x100000 32 := xori v122 v127
  let v129 : IVec S128x100000 32 := addi v122 v128
  let c_33 : IVec S_ 32 := constantI S_ 32 24#32
  let v130 : IVec S128x100000 32 := broadcastInDim S128x100000 ![] bcast_S_S128x100000 c_33
  let v131 : IVec S128x100000 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S128x100000 32) (v94 : IVec S128x100000 32) : IVec S128x100000 32 × IVec S128x100000 32 :=
  let v95 : IVec S128x100000 32 := addi v88 v94
  let c_24 : IVec S_ 32 := constantI S_ 32 6#32
  let v96 : IVec S128x100000 32 := broadcastInDim S128x100000 ![] bcast_S_S128x100000 c_24
  let v97 : IVec S128x100000 32 := Host.shli v94 v96
  let c_25 : IVec S_ 32 := constantI S_ 32 26#32
  let v98 : IVec S128x100000 32 := broadcastInDim S128x100000 ![] bcast_S_S128x100000 c_25
  let v99 : IVec S128x100000 32 := Host.shrui v94 v98
  let v100 : IVec S128x100000 32 := ori v97 v99
  let v101 : IVec S128x100000 32 := xori v95 v100
  let v102 : IVec S128x100000 32 := broadcastInDim S128x100000 ![] bcast_S_S128x100000 arg0
  let v103 : IVec S128x100000 32 := addi v95 v102
  let v104 : IVec S128x100000 32 := broadcastInDim S128x100000 ![] bcast_S_S128x100000 arg1
  let v105 : IVec S128x100000 32 := addi v101 v104
  let c_26 : IVec S_ 32 := constantI S_ 32 3#32
  let v106 : IVec S128x100000 32 := broadcastInDim S128x100000 ![] bcast_S_S128x100000 c_26
  let v107 : IVec S128x100000 32 := addi v105 v106
  let v108 : IVec S128x100000 32 := addi v103 v107
  let c_27 : IVec S_ 32 := constantI S_ 32 17#32
  let v109 : IVec S128x100000 32 := broadcastInDim S128x100000 ![] bcast_S_S128x100000 c_27
  let v110 : IVec S128x100000 32 := Host.shli v107 v109
  let c_28 : IVec S_ 32 := constantI S_ 32 15#32
  let v111 : IVec S128x100000 32 := broadcastInDim S128x100000 ![] bcast_S_S128x100000 c_28
  let v112 : IVec S128x100000 32 := Host.shrui v107 v111
  let v113 : IVec S128x100000 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S128x100000 32) (v74 : IVec S128x100000 32) (v75 : IVec S128x100000 32) : IVec S128x100000 32 × IVec S128x100000 32 :=
  let v76 : IVec S128x100000 32 := Host.shli v73 v75
  let c_19 : IVec S_ 32 := constantI S_ 32 19#32
  let v77 : IVec S128x100000 32 := broadcastInDim S128x100000 ![] bcast_S_S128x100000 c_19
  let v78 : IVec S128x100000 32 := Host.shrui v73 v77
  let v79 : IVec S128x100000 32 := ori v76 v78
  let v80 : IVec S128x100000 32 := xori v74 v79
  let v81 : IVec S128x100000 32 := addi v74 v80
  let c_20 : IVec S_ 32 := constantI S_ 32 15#32
  let v82 : IVec S128x100000 32 := broadcastInDim S128x100000 ![] bcast_S_S128x100000 c_20
  let v83 : IVec S128x100000 32 := Host.shli v80 v82
  let c_21 : IVec S_ 32 := constantI S_ 32 17#32
  let v84 : IVec S128x100000 32 := broadcastInDim S128x100000 ![] bcast_S_S128x100000 c_21
  let v85 : IVec S128x100000 32 := Host.shrui v80 v84
  let v86 : IVec S128x100000 32 := ori v83 v85
  let v87 : IVec S128x100000 32 := xori v81 v86
  let v88 : IVec S128x100000 32 := addi v81 v87
  let c_22 : IVec S_ 32 := constantI S_ 32 26#32
  let v89 : IVec S128x100000 32 := broadcastInDim S128x100000 ![] bcast_S_S128x100000 c_22
  let v90 : IVec S128x100000 32 := Host.shli v87 v89
  let c_23 : IVec S_ 32 := constantI S_ 32 6#32
  let v91 : IVec S128x100000 32 := broadcastInDim S128x100000 ![] bcast_S_S128x100000 c_23
  let v92 : IVec S128x100000 32 := Host.shrui v87 v91
  let v93 : IVec S128x100000 32 := ori v90 v92
  let v94 : IVec S128x100000 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S128x100000 32) (v54 : IVec S128x100000 32) (v56 : IVec S128x100000 32) : IVec S128x100000 32 × IVec S128x100000 32 :=
  let c_14 : IVec S_ 32 := constantI S_ 32 16#32
  let v57 : IVec S128x100000 32 := broadcastInDim S128x100000 ![] bcast_S_S128x100000 c_14
  let v58 : IVec S128x100000 32 := Host.shrui v53 v57
  let v59 : IVec S128x100000 32 := ori v56 v58
  let v60 : IVec S128x100000 32 := xori v54 v59
  let v61 : IVec S128x100000 32 := addi v54 v60
  let c_15 : IVec S_ 32 := constantI S_ 32 24#32
  let v62 : IVec S128x100000 32 := broadcastInDim S128x100000 ![] bcast_S_S128x100000 c_15
  let v63 : IVec S128x100000 32 := Host.shli v60 v62
  let c_16 : IVec S_ 32 := constantI S_ 32 8#32
  let v64 : IVec S128x100000 32 := broadcastInDim S128x100000 ![] bcast_S_S128x100000 c_16
  let v65 : IVec S128x100000 32 := Host.shrui v60 v64
  let v66 : IVec S128x100000 32 := ori v63 v65
  let v67 : IVec S128x100000 32 := xori v61 v66
  let v68 : IVec S128x100000 32 := broadcastInDim S128x100000 ![] bcast_S_S128x100000 v1
  let v69 : IVec S128x100000 32 := addi v61 v68
  let v70 : IVec S128x100000 32 := broadcastInDim S128x100000 ![] bcast_S_S128x100000 arg0
  let v71 : IVec S128x100000 32 := addi v67 v70
  let c_17 : IVec S_ 32 := constantI S_ 32 2#32
  let v72 : IVec S128x100000 32 := broadcastInDim S128x100000 ![] bcast_S_S128x100000 c_17
  let v73 : IVec S128x100000 32 := addi v71 v72
  let v74 : IVec S128x100000 32 := addi v69 v73
  let c_18 : IVec S_ 32 := constantI S_ 32 13#32
  let v75 : IVec S128x100000 32 := broadcastInDim S128x100000 ![] bcast_S_S128x100000 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S128x100000 32) (v37 : IVec S128x100000 32) (c_8 : IVec S_ 32) : IVec S128x100000 32 × IVec S128x100000 32 :=
  let v38 : IVec S128x100000 32 := broadcastInDim S128x100000 ![] bcast_S_S128x100000 c_8
  let v39 : IVec S128x100000 32 := addi v37 v38
  let v40 : IVec S128x100000 32 := addi v35 v39
  let c_9 : IVec S_ 32 := constantI S_ 32 17#32
  let v41 : IVec S128x100000 32 := broadcastInDim S128x100000 ![] bcast_S_S128x100000 c_9
  let v42 : IVec S128x100000 32 := Host.shli v39 v41
  let c_10 : IVec S_ 32 := constantI S_ 32 15#32
  let v43 : IVec S128x100000 32 := broadcastInDim S128x100000 ![] bcast_S_S128x100000 c_10
  let v44 : IVec S128x100000 32 := Host.shrui v39 v43
  let v45 : IVec S128x100000 32 := ori v42 v44
  let v46 : IVec S128x100000 32 := xori v40 v45
  let v47 : IVec S128x100000 32 := addi v40 v46
  let c_11 : IVec S_ 32 := constantI S_ 32 29#32
  let v48 : IVec S128x100000 32 := broadcastInDim S128x100000 ![] bcast_S_S128x100000 c_11
  let v49 : IVec S128x100000 32 := Host.shli v46 v48
  let c_12 : IVec S_ 32 := constantI S_ 32 3#32
  let v50 : IVec S128x100000 32 := broadcastInDim S128x100000 ![] bcast_S_S128x100000 c_12
  let v51 : IVec S128x100000 32 := Host.shrui v46 v50
  let v52 : IVec S128x100000 32 := ori v49 v51
  let v53 : IVec S128x100000 32 := xori v47 v52
  let v54 : IVec S128x100000 32 := addi v47 v53
  let c_13 : IVec S_ 32 := constantI S_ 32 16#32
  let v55 : IVec S128x100000 32 := broadcastInDim S128x100000 ![] bcast_S_S128x100000 c_13
  let v56 : IVec S128x100000 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S128x100000 32) (v18 : IVec S128x100000 32) : IVec S128x100000 32 × IVec S128x100000 32 :=
  let v19 : IVec S128x100000 32 := xori v13 v18
  let v20 : IVec S128x100000 32 := addi v13 v19
  let c_4 : IVec S_ 32 := constantI S_ 32 26#32
  let v21 : IVec S128x100000 32 := broadcastInDim S128x100000 ![] bcast_S_S128x100000 c_4
  let v22 : IVec S128x100000 32 := Host.shli v19 v21
  let c_5 : IVec S_ 32 := constantI S_ 32 6#32
  let v23 : IVec S128x100000 32 := broadcastInDim S128x100000 ![] bcast_S_S128x100000 c_5
  let v24 : IVec S128x100000 32 := Host.shrui v19 v23
  let v25 : IVec S128x100000 32 := ori v22 v24
  let v26 : IVec S128x100000 32 := xori v20 v25
  let v27 : IVec S128x100000 32 := addi v20 v26
  let c_6 : IVec S_ 32 := constantI S_ 32 6#32
  let v28 : IVec S128x100000 32 := broadcastInDim S128x100000 ![] bcast_S_S128x100000 c_6
  let v29 : IVec S128x100000 32 := Host.shli v26 v28
  let c_7 : IVec S_ 32 := constantI S_ 32 26#32
  let v30 : IVec S128x100000 32 := broadcastInDim S128x100000 ![] bcast_S_S128x100000 c_7
  let v31 : IVec S128x100000 32 := Host.shrui v26 v30
  let v32 : IVec S128x100000 32 := ori v29 v31
  let v33 : IVec S128x100000 32 := xori v27 v32
  let v34 : IVec S128x100000 32 := broadcastInDim S128x100000 ![] bcast_S_S128x100000 arg1
  let v35 : IVec S128x100000 32 := addi v27 v34
  let v36 : IVec S128x100000 32 := broadcastInDim S128x100000 ![] bcast_S_S128x100000 v1
  let v37 : IVec S128x100000 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S128x100000 32) (arg3 : IVec S128x100000 32) : IVec S128x100000 32 × IVec S128x100000 32 :=
  let v0 : IVec S_ 32 := xori arg0 arg1
  let c : IVec S_ 32 := constantI S_ 32 466688986#32
  let v1 : IVec S_ 32 := xori v0 c
  let v2 : IVec S128x100000 32 := broadcastInDim S128x100000 ![] bcast_S_S128x100000 arg0
  let v3 : IVec S128x100000 32 := addi arg2 v2
  let v4 : IVec S128x100000 32 := broadcastInDim S128x100000 ![] bcast_S_S128x100000 arg1
  let v5 : IVec S128x100000 32 := addi arg3 v4
  let v6 : IVec S128x100000 32 := addi v3 v5
  let c_0 : IVec S_ 32 := constantI S_ 32 13#32
  let v7 : IVec S128x100000 32 := broadcastInDim S128x100000 ![] bcast_S_S128x100000 c_0
  let v8 : IVec S128x100000 32 := Host.shli v5 v7
  let c_1 : IVec S_ 32 := constantI S_ 32 19#32
  let v9 : IVec S128x100000 32 := broadcastInDim S128x100000 ![] bcast_S_S128x100000 c_1
  let v10 : IVec S128x100000 32 := Host.shrui v5 v9
  let v11 : IVec S128x100000 32 := ori v8 v10
  let v12 : IVec S128x100000 32 := xori v6 v11
  let v13 : IVec S128x100000 32 := addi v6 v12
  let c_2 : IVec S_ 32 := constantI S_ 32 15#32
  let v14 : IVec S128x100000 32 := broadcastInDim S128x100000 ![] bcast_S_S128x100000 c_2
  let v15 : IVec S128x100000 32 := Host.shli v12 v14
  let c_3 : IVec S_ 32 := constantI S_ 32 17#32
  let v16 : IVec S128x100000 32 := broadcastInDim S128x100000 ![] bcast_S_S128x100000 c_3
  let v17 : IVec S128x100000 32 := Host.shrui v12 v16
  let v18 : IVec S128x100000 32 := ori v15 v17
  fn_threefry2x32_part1 (F := F) arg0 arg1 v1 v13 v18

def fn_uniform_part1 {F : FTy → Type} [FloatOps F] (v1 : FVec F S1x1 .f32) (v2 : FVec F S1x1 .f32) (v19 : IVec S128x100000 32) : FVec F S128x100000 .f32 :=
  let c_2 : IVec S_ 32 := constantI S_ 32 9#32
  let v20 : IVec S128x100000 32 := broadcastInDim S128x100000 ![] bcast_S_S128x100000 c_2
  let v21 : IVec S128x100000 32 := Host.shrui v19 v20
  let c_3 : IVec S_ 32 := constantI S_ 32 1065353216#32
  let v22 : IVec S128x100000 32 := broadcastInDim S128x100000 ![] bcast_S_S128x100000 c_3
  let v23 : IVec S128x100000 32 := ori v21 v22
  let v24 : FVec F S128x100000 .f32 := bitcastToFloat .f32 v23
  let cst : FVec F S_ .f32 := constant S_ .f32 0x3F800000#32
  let v25 : FVec F S128x100000 .f32 := broadcastInDim S128x100000 ![] bcast_S_S128x100000 cst
  let v26 : FVec F S128x100000 .f32 := subf v24 v25
  let v27 : FVec F S1x1 .f32 := subf v2 v1
  let v28 : FVec F S128x100000 .f32 := broadcastInDim S128x100000 ![0, 1] bcast_S1x1_S128x100000_0_1 v27
  let v29 : FVec F S128x100000 .f32 := mulf v26 v28
  let v30 : FVec F S128x100000 .f32 := broadcastInDim S128x100000 ![0, 1] bcast_S1x1_S128x100000_0_1 v1
  let v31 : FVec F S128x100000 .f32 := addf v29 v30
  let v32 : FVec F S128x100000 .f32 := broadcastInDim S128x100000 ![0, 1] bcast_S1x1_S128x100000_0_1 v1
  let v33 : FVec F S128x100000 .f32 := maximumf v32 v31
  v33

def fn_uniform {F : FTy → Type} [FloatOps F] (arg0 : IVec S2 32) (arg1 : FVec F S_ .f32) (arg2 : FVec F S_ .f32) : FVec F S128x100000 .f32 :=
  let v0 : FVec F S_ .f32 := id arg1
  let v1 : FVec F S1x1 .f32 := broadcastInDim S1x1 ![] bcast_S_S1x1 arg2
  let v2 : FVec F S1x1 .f32 := broadcastInDim S1x1 ![] bcast_S_S1x1 v0
  let v3 : IVec S1 32 := (extractStridedSlice S1 ![0] · slices_S2_S1_0) arg0
  let v4 : IVec S_ 32 := shapeCast S_ v3 shapeCasts_S1_S_
  let v5 : IVec S1 32 := (extractStridedSlice S1 ![1] · slices_S2_S1_1) arg0
  let v6 : IVec S_ 32 := shapeCast S_ v5 shapeCasts_S1_S_
  let v7 : IVec S128x100000 64 := iotaInDim S128x100000 64 0
  let v8 : IVec S128x100000 64 := iotaInDim S128x100000 64 1
  let c : IVec S_ 64 := constantI S_ 64 100000#64
  let v9 : IVec S128x100000 64 := broadcastInDim S128x100000 ![] bcast_S_S128x100000 c
  let v10 : IVec S128x100000 64 := muli v9 v7
  let c_0 : IVec S_ 64 := constantI S_ 64 1#64
  let v11 : IVec S128x100000 64 := broadcastInDim S128x100000 ![] bcast_S_S128x100000 c_0
  let v12 : IVec S128x100000 64 := muli v11 v8
  let v13 : IVec S128x100000 64 := addi v10 v12
  let c_1 : IVec S_ 64 := constantI S_ 64 32#64
  let v14 : IVec S128x100000 64 := broadcastInDim S128x100000 ![] bcast_S_S128x100000 c_1
  let v15 : IVec S128x100000 64 := Host.shrui v13 v14
  let v16 : IVec S128x100000 32 := (trunci 32 · natLt_32_64) v13
  let v17 : IVec S128x100000 32 := (trunci 32 · natLt_32_64) v15
  let v18_0 : IVec S128x100000 32 := (fn_threefry2x32 (F := F) v4 v6 v17 v16).1
  let v18_1 : IVec S128x100000 32 := (fn_threefry2x32 (F := F) v4 v6 v17 v16).2
  let v19 : IVec S128x100000 32 := xori v18_0 v18_1
  fn_uniform_part1 (F := F) v1 v2 v19

def fn_gumbel {F : FTy → Type} [FloatOps F] (arg0 : IVec S2 32) : FVec F S128x100000 .f32 :=
  let cst : FVec F S_ .f32 := constant S_ .f32 0x3F800000#32
  let cst_0 : FVec F S_ .f32 := constant S_ .f32 0x00800000#32
  let v0 : FVec F S128x100000 .f32 := fn_uniform (F := F) arg0 cst cst_0
  let v1 : FVec F S128x100000 .f32 := Host.log v0
  let v2 : FVec F S128x100000 .f32 := Host.negf v1
  let v3 : FVec F S128x100000 .f32 := Host.log v2
  let v4 : FVec F S128x100000 .f32 := Host.negf v3
  v4

def fn_argmax {F : FTy → Type} [FloatOps F] (arg0 : FVec F S128x100000 .f32) : IVec S128 32 :=
  let v0 : IVec S128x100000 32 := iotaInDim S128x100000 32 1
  let cst : FVec F S_ .f32 := constant S_ .f32 0xFF800000#32
  let c : IVec S_ 32 := constantI S_ 32 0#32
  let v1_0 : FVec F S128 .f32 := (fun x y u v j => (Host.argReduce reducer_argmax_f32_i32 x y u v reducesTo_S128x100000_S128_d1 h_S_ j).1) arg0 v0 cst c
  let v1_1 : IVec S128 32 := (fun x y u v j => (Host.argReduce reducer_argmax_f32_i32 x y u v reducesTo_S128x100000_S128_d1 h_S_ j).2) arg0 v0 cst c
  v1_1

def fn_where {F : FTy → Type} [FloatOps F] (arg0 : IVec S128x100000 1) (arg1 : FVec F S_ .f32) (arg2 : FVec F S128x100000 .f32) : FVec F S128x100000 .f32 :=
  let v0 : FVec F S_ .f32 := id arg1
  let v1 : FVec F S128x100000 .f32 := broadcastInDim S128x100000 ![] bcast_S_S128x100000 v0
  let v2 : FVec F S128x100000 .f32 := select arg0 v1 arg2
  v2

def fn_part1 {F : FTy → Type} [FloatOps F] (main_v12 : FVec F S128x100000 .f32) (main_v18 : FVec F S128x100000 .f32) (main_v19 : FVec F S128x100000 .f32) : IVec S128x1 1 :=
  let main_cst_2 : FVec F S_ .f32 := constant S_ .f32 0xFF800000#32
  let main_v20 : FVec F S128 .f32 := (fun x v => Host.reduce FloatOps.maximumf x v reducesTo_S128x100000_S128_d1 h_S_) main_v19 main_cst_2
  let main_cst_3 : FVec F S_ .f32 := constant S_ .f32 0x41000000#32
  let main_v21 : FVec F S128 .f32 := broadcastInDim S128 ![] bcast_S_S128 main_cst_3
  let main_v22 : IVec S128 1 := cmpf .ole main_v20 main_v21
  let main_cst_4 : FVec F S_ .f32 := constant S_ .f32 0xFF800000#32
  let main_v23 : FVec F S128 .f32 := (fun x v => Host.reduce FloatOps.maximumf x v reducesTo_S128x100000_S128_d1 h_S_) main_v18 main_cst_4
  let main_cst_5 : FVec F S_ .f32 := constant S_ .f32 0x32800000#32
  let main_v24 : FVec F S128 .f32 := broadcastInDim S128 ![] bcast_S_S128 main_cst_5
  let main_v25 : FVec F S128 .f32 := addf main_v23 main_v24
  let main_cst_6 : FVec F S_ .f32 := constant S_ .f32 0xFF800000#32
  let main_v26 : FVec F S128 .f32 := (fun x v => Host.reduce FloatOps.maximumf x v reducesTo_S128x100000_S128_d1 h_S_) main_v12 main_cst_6
  let main_v27 : IVec S128 1 := cmpf .olt main_v25 main_v26
  let main_v28 : IVec S128 1 := andi main_v22 main_v27
  let main_v29 : IVec S128x1 1 := broadcastInDim S128x1 ![0] bcast_S128_S128x1_0 main_v28
  main_v29

def fn {F : FTy → Type} [FloatOps F] (main_arg0 : FVec F S128x1024 .f32) (main_arg1 : FVec F S1024x100000 .f32) (main_arg2 : FVec F S100000 .f32) : IVec S128x1 1 :=
  let main_v0 : FVec F S128x100000 .f32 := (fun l r => Host.dotGeneral dot_S128x1024_S1024x100000_S128x100000_1_0_0_1_n_n none l r) main_arg0 main_arg1
  let main_v1 : FVec F S1x100000 .f32 := broadcastInDim S1x100000 ![1] bcast_S100000_S1x100000_1 main_arg2
  let main_v2 : FVec F S128x100000 .f32 := broadcastInDim S128x100000 ![0, 1] bcast_S1x100000_S128x100000_0_1 main_v1
  let main_v3 : FVec F S128x100000 .f32 := addf main_v0 main_v2
  let main_c : IVec S_ 32 := constantI S_ 32 42#32
  let main_c_0 : IVec S_ 32 := constantI S_ 32 32#32
  let main_v4 : IVec S_ 32 := Host.shrui main_c main_c_0
  let main_v5 : IVec S_ 32 := id main_v4
  let main_v6 : IVec S1 32 := broadcastInDim S1 ![] bcast_S_S1 main_v5
  let main_c_1 : IVec S_ 32 := constantI S_ 32 4294967295#32
  let main_v7 : IVec S_ 32 := andi main_c main_c_1
  let main_v8 : IVec S_ 32 := id main_v7
  let main_v9 : IVec S1 32 := broadcastInDim S1 ![] bcast_S_S1 main_v8
  let main_v10 : IVec S2 32 := (fun a b => concatenate S2 0 [⟨S1, a⟩, ⟨S1, b⟩] concatenates_S1_S1_S2_d0) main_v6 main_v9
  let main_v11 : FVec F S128x100000 .f32 := fn_gumbel (F := F) main_v10
  let main_v12 : FVec F S128x100000 .f32 := addf main_v3 main_v11
  let main_v13 : IVec S128 32 := fn_argmax (F := F) main_v12
  let main_v14 : IVec S128x100000 32 := iotaInDim S128x100000 32 1
  let main_v15 : IVec S128x1 32 := broadcastInDim S128x1 ![0] bcast_S128_S128x1_0 main_v13
  let main_v16 : IVec S128x100000 32 := broadcastInDim S128x100000 ![0, 1] bcast_S128x1_S128x100000_0_1 main_v15
  let main_v17 : IVec S128x100000 1 := cmpi .eq main_v14 main_v16
  let main_cst : FVec F S_ .f32 := constant S_ .f32 0xFF800000#32
  let main_v18 : FVec F S128x100000 .f32 := fn_where (F := F) main_v17 main_cst main_v12
  let main_v19 : FVec F S128x100000 .f32 := Host.absf main_v3
  fn_part1 (F := F) main_v12 main_v18 main_v19
-- ==== Kernel.lean ====
abbrev S128x1024 : Shape := ⟨2, ![128, 1024]⟩
abbrev S1024x100000 : Shape := ⟨2, ![1024, 100000]⟩
abbrev S100000 : Shape := ⟨1, ![100000]⟩
abbrev S_ : Shape := ⟨0, ![]⟩
abbrev S1 : Shape := ⟨1, ![1]⟩
abbrev S2 : Shape := ⟨1, ![2]⟩
abbrev S1x1 : Shape := ⟨2, ![1, 1]⟩
abbrev S128x100000 : Shape := ⟨2, ![128, 100000]⟩
abbrev S100000x128 : Shape := ⟨2, ![100000, 128]⟩
abbrev S100000x1 : Shape := ⟨2, ![100000, 1]⟩
abbrev S1x128 : Shape := ⟨2, ![1, 128]⟩
abbrev S1024x2048 : Shape := ⟨2, ![1024, 2048]⟩
abbrev S2048x1 : Shape := ⟨2, ![2048, 1]⟩
abbrev S2048x128 : Shape := ⟨2, ![2048, 128]⟩
abbrev S128 : Shape := ⟨1, ![128]⟩
abbrev S128x1 : Shape := ⟨2, ![128, 1]⟩

abbrev nBuf : Space → Nat
  | .hbm => 284
  | .vmem => 10
  | .smem => 0
  | _ => 0

abbrev hbmTy0_0 (i : Nat) : BufTy := match i % 128 with
  | 0 => ⟨S128x1024, .f32⟩
  | 1 => ⟨S1024x100000, .f32⟩
  | 2 => ⟨S100000, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S128x100000, .i64⟩
  | 23 => ⟨S128x100000, .i64⟩
  | 24 => ⟨S_, .i64⟩
  | 25 => ⟨S128x100000, .i64⟩
  | 26 => ⟨S128x100000, .i64⟩
  | 27 => ⟨S_, .i64⟩
  | 28 => ⟨S128x100000, .i64⟩
  | 29 => ⟨S128x100000, .i64⟩
  | 30 => ⟨S128x100000, .i64⟩
  | 31 => ⟨S_, .i64⟩
  | 32 => ⟨S128x100000, .i64⟩
  | 33 => ⟨S128x100000, .i64⟩
  | 34 => ⟨S128x100000, .i32⟩
  | 35 => ⟨S128x100000, .i32⟩
  | 36 => ⟨S_, .i32⟩
  | 37 => ⟨S_, .i32⟩
  | 38 => ⟨S_, .i32⟩
  | 39 => ⟨S128x100000, .i32⟩
  | 40 => ⟨S128x100000, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x1024, .f32⟩

abbrev hbmTy0_1 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .i32⟩
  | 9 => ⟨S128x100000, .i32⟩
  | 10 => ⟨S128x100000, .i32⟩
  | 11 => ⟨S_, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S_, .i32⟩
  | 21 => ⟨S128x100000, .i32⟩
  | 22 => ⟨S128x100000, .i32⟩
  | 23 => ⟨S_, .i32⟩
  | 24 => ⟨S128x100000, .i32⟩
  | 25 => ⟨S128x100000, .i32⟩
  | 26 => ⟨S128x100000, .i32⟩
  | 27 => ⟨S128x100000, .i32⟩
  | 28 => ⟨S128x100000, .i32⟩
  | 29 => ⟨S_, .i32⟩
  | 30 => ⟨S128x100000, .i32⟩
  | 31 => ⟨S128x100000, .i32⟩
  | 32 => ⟨S_, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S128x100000, .i32⟩
  | 45 => ⟨S_, .i32⟩
  | 46 => ⟨S128x100000, .i32⟩
  | 47 => ⟨S128x100000, .i32⟩
  | 48 => ⟨S_, .i32⟩
  | 49 => ⟨S128x100000, .i32⟩
  | 50 => ⟨S128x100000, .i32⟩
  | 51 => ⟨S128x100000, .i32⟩
  | 52 => ⟨S128x100000, .i32⟩
  | 53 => ⟨S128x100000, .i32⟩
  | 54 => ⟨S_, .i32⟩
  | 55 => ⟨S128x100000, .i32⟩
  | 56 => ⟨S128x100000, .i32⟩
  | 57 => ⟨S_, .i32⟩
  | 58 => ⟨S128x100000, .i32⟩
  | 59 => ⟨S128x100000, .i32⟩
  | 60 => ⟨S128x100000, .i32⟩
  | 61 => ⟨S128x100000, .i32⟩
  | 62 => ⟨S128x100000, .i32⟩
  | 63 => ⟨S_, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S128x100000, .i32⟩
  | 70 => ⟨S128x100000, .i32⟩
  | 71 => ⟨S128x100000, .i32⟩
  | 72 => ⟨S_, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S128x100000, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S128x100000, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S_, .i32⟩
  | _ => ⟨S128x1024, .f32⟩

abbrev hbmTy0_2 (i : Nat) : BufTy := match i % 128 with
  | 0 => ⟨S128x100000, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S_, .i32⟩
  | 7 => ⟨S128x100000, .i32⟩
  | 8 => ⟨S128x100000, .i32⟩
  | 9 => ⟨S128x100000, .f32⟩
  | 10 => ⟨S_, .f32⟩
  | 11 => ⟨S128x100000, .f32⟩
  | 12 => ⟨S128x100000, .f32⟩
  | 13 => ⟨S1x1, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S128x100000, .f32⟩
  | 20 => ⟨S128x100000, .f32⟩
  | 21 => ⟨S128x100000, .f32⟩
  | 22 => ⟨S128x100000, .f32⟩
  | 23 => ⟨S128x100000, .f32⟩
  | 24 => ⟨S100000x128, .f32⟩
  | 25 => ⟨S100000x1, .f32⟩
  | 26 => ⟨S1x128, .i32⟩
  | 27 => ⟨S128x1, .i32⟩
  | _ => ⟨S128x1024, .f32⟩

abbrev hbmTy (i : Nat) : BufTy := match i / 128 with
  | 0 => hbmTy0_0 i
  | 1 => hbmTy0_1 i
  | 2 => hbmTy0_2 i
  | _ => ⟨S128x1024, .f32⟩

abbrev bufTy : (tb : Table) → Fin (tcTables nBuf tb) → BufTy
  | .hbm, ⟨i, _⟩ => hbmTy i
  | .local _ .vmem, ⟨0, _⟩ => ⟨S128x1024, .f32⟩
  | .local _ .vmem, ⟨1, _⟩ => ⟨S1024x2048, .f32⟩
  | .local _ .vmem, ⟨2, _⟩ => ⟨S1024x2048, .f32⟩
  | .local _ .vmem, ⟨3, _⟩ => ⟨S2048x1, .f32⟩
  | .local _ .vmem, ⟨4, _⟩ => ⟨S2048x1, .f32⟩
  | .local _ .vmem, ⟨5, _⟩ => ⟨S2048x128, .f32⟩
  | .local _ .vmem, ⟨6, _⟩ => ⟨S2048x128, .f32⟩
  | .local _ .vmem, ⟨7, _⟩ => ⟨S1x128, .i32⟩
  | .local _ .vmem, ⟨8, _⟩ => ⟨S1x128, .f32⟩
  | .local _ .vmem, ⟨9, _⟩ => ⟨S1x128, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_cst_0 : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_c : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_c_0 : Ref sig .tc := ⟨.hbm, 27, rfl⟩
abbrev main_call0_call0_v11 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_call0_c_1 : Ref sig .tc := ⟨.hbm, 31, rfl⟩
abbrev main_call0_call0_v14 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_v17 : Ref sig .tc := ⟨.hbm, 35, rfl⟩
abbrev main_call0_call0_call0_v0 : Ref sig .tc := ⟨.hbm, 36, rfl⟩
abbrev main_call0_call0_call0_c : Ref sig .tc := ⟨.hbm, 37, rfl⟩
abbrev main_call0_call0_call0_v1 : Ref sig .tc := ⟨.hbm, 38, rfl⟩
abbrev main_call0_call0_call0_v2 : Ref sig .tc := ⟨.hbm, 39, rfl⟩
abbrev main_call0_call0_call0_v3 : Ref sig .tc := ⟨.hbm, 40, rfl⟩
abbrev main_call0_call0_call0_v4 : Ref sig .tc := ⟨.hbm, 41, rfl⟩
abbrev main_call0_call0_call0_v5 : Ref sig .tc := ⟨.hbm, 42, rfl⟩
abbrev main_call0_call0_call0_v6 : Ref sig .tc := ⟨.hbm, 43, rfl⟩
abbrev main_call0_call0_call0_c_0 : Ref sig .tc := ⟨.hbm, 44, rfl⟩
abbrev main_call0_call0_call0_v7 : Ref sig .tc := ⟨.hbm, 45, rfl⟩
abbrev main_call0_call0_call0_v8 : Ref sig .tc := ⟨.hbm, 46, rfl⟩
abbrev main_call0_call0_call0_c_1 : Ref sig .tc := ⟨.hbm, 47, rfl⟩
abbrev main_call0_call0_call0_v9 : Ref sig .tc := ⟨.hbm, 48, rfl⟩
abbrev main_call0_call0_call0_v10 : Ref sig .tc := ⟨.hbm, 49, rfl⟩
abbrev main_call0_call0_call0_v11 : Ref sig .tc := ⟨.hbm, 50, rfl⟩
abbrev main_call0_call0_call0_v12 : Ref sig .tc := ⟨.hbm, 51, rfl⟩
abbrev main_call0_call0_call0_v13 : Ref sig .tc := ⟨.hbm, 52, rfl⟩
abbrev main_call0_call0_call0_c_2 : Ref sig .tc := ⟨.hbm, 53, rfl⟩
abbrev main_call0_call0_call0_v14 : Ref sig .tc := ⟨.hbm, 54, rfl⟩
abbrev main_call0_call0_call0_v15 : Ref sig .tc := ⟨.hbm, 55, rfl⟩
abbrev main_call0_call0_call0_c_3 : Ref sig .tc := ⟨.hbm, 56, rfl⟩
abbrev main_call0_call0_call0_v16 : Ref sig .tc := ⟨.hbm, 57, rfl⟩
abbrev main_call0_call0_call0_v17 : Ref sig .tc := ⟨.hbm, 58, rfl⟩
abbrev main_call0_call0_call0_v18 : Ref sig .tc := ⟨.hbm, 59, rfl⟩
abbrev main_call0_call0_call0_v19 : Ref sig .tc := ⟨.hbm, 60, rfl⟩
abbrev main_call0_call0_call0_v20 : Ref sig .tc := ⟨.hbm, 61, rfl⟩
abbrev main_call0_call0_call0_c_4 : Ref sig .tc := ⟨.hbm, 62, rfl⟩
abbrev main_call0_call0_call0_v21 : Ref sig .tc := ⟨.hbm, 63, rfl⟩
abbrev main_call0_call0_call0_v22 : Ref sig .tc := ⟨.hbm, 64, rfl⟩
abbrev main_call0_call0_call0_c_5 : Ref sig .tc := ⟨.hbm, 65, rfl⟩
abbrev main_call0_call0_call0_v23 : Ref sig .tc := ⟨.hbm, 66, rfl⟩
abbrev main_call0_call0_call0_v24 : Ref sig .tc := ⟨.hbm, 67, rfl⟩
abbrev main_call0_call0_call0_v25 : Ref sig .tc := ⟨.hbm, 68, rfl⟩
abbrev main_call0_call0_call0_v26 : Ref sig .tc := ⟨.hbm, 69, rfl⟩
abbrev main_call0_call0_call0_v27 : Ref sig .tc := ⟨.hbm, 70, rfl⟩
abbrev main_call0_call0_call0_c_6 : Ref sig .tc := ⟨.hbm, 71, rfl⟩
abbrev main_call0_call0_call0_v28 : Ref sig .tc := ⟨.hbm, 72, rfl⟩
abbrev main_call0_call0_call0_v29 : Ref sig .tc := ⟨.hbm, 73, rfl⟩
abbrev main_call0_call0_call0_c_7 : Ref sig .tc := ⟨.hbm, 74, rfl⟩
abbrev main_call0_call0_call0_v30 : Ref sig .tc := ⟨.hbm, 75, rfl⟩
abbrev main_call0_call0_call0_v31 : Ref sig .tc := ⟨.hbm, 76, rfl⟩
abbrev main_call0_call0_call0_v32 : Ref sig .tc := ⟨.hbm, 77, rfl⟩
abbrev main_call0_call0_call0_v33 : Ref sig .tc := ⟨.hbm, 78, rfl⟩
abbrev main_call0_call0_call0_v34 : Ref sig .tc := ⟨.hbm, 79, rfl⟩
abbrev main_call0_call0_call0_v35 : Ref sig .tc := ⟨.hbm, 80, rfl⟩
abbrev main_call0_call0_call0_v36 : Ref sig .tc := ⟨.hbm, 81, rfl⟩
abbrev main_call0_call0_call0_v37 : Ref sig .tc := ⟨.hbm, 82, rfl⟩
abbrev main_call0_call0_call0_c_8 : Ref sig .tc := ⟨.hbm, 83, rfl⟩
abbrev main_call0_call0_call0_v38 : Ref sig .tc := ⟨.hbm, 84, rfl⟩
abbrev main_call0_call0_call0_v39 : Ref sig .tc := ⟨.hbm, 85, rfl⟩
abbrev main_call0_call0_call0_v40 : Ref sig .tc := ⟨.hbm, 86, rfl⟩
abbrev main_call0_call0_call0_c_9 : Ref sig .tc := ⟨.hbm, 87, rfl⟩
abbrev main_call0_call0_call0_v41 : Ref sig .tc := ⟨.hbm, 88, rfl⟩
abbrev main_call0_call0_call0_v42 : Ref sig .tc := ⟨.hbm, 89, rfl⟩
abbrev main_call0_call0_call0_c_10 : Ref sig .tc := ⟨.hbm, 90, rfl⟩
abbrev main_call0_call0_call0_v43 : Ref sig .tc := ⟨.hbm, 91, rfl⟩
abbrev main_call0_call0_call0_v44 : Ref sig .tc := ⟨.hbm, 92, rfl⟩
abbrev main_call0_call0_call0_v45 : Ref sig .tc := ⟨.hbm, 93, rfl⟩
abbrev main_call0_call0_call0_v46 : Ref sig .tc := ⟨.hbm, 94, rfl⟩
abbrev main_call0_call0_call0_v47 : Ref sig .tc := ⟨.hbm, 95, rfl⟩
abbrev main_call0_call0_call0_c_11 : Ref sig .tc := ⟨.hbm, 96, rfl⟩
abbrev main_call0_call0_call0_v48 : Ref sig .tc := ⟨.hbm, 97, rfl⟩
abbrev main_call0_call0_call0_v49 : Ref sig .tc := ⟨.hbm, 98, rfl⟩
abbrev main_call0_call0_call0_c_12 : Ref sig .tc := ⟨.hbm, 99, rfl⟩
abbrev main_call0_call0_call0_v50 : Ref sig .tc := ⟨.hbm, 100, rfl⟩
abbrev main_call0_call0_call0_v51 : Ref sig .tc := ⟨.hbm, 101, rfl⟩
abbrev main_call0_call0_call0_v52 : Ref sig .tc := ⟨.hbm, 102, rfl⟩
abbrev main_call0_call0_call0_v53 : Ref sig .tc := ⟨.hbm, 103, rfl⟩
abbrev main_call0_call0_call0_v54 : Ref sig .tc := ⟨.hbm, 104, rfl⟩
abbrev main_call0_call0_call0_c_13 : Ref sig .tc := ⟨.hbm, 105, rfl⟩
abbrev main_call0_call0_call0_v55 : Ref sig .tc := ⟨.hbm, 106, rfl⟩
abbrev main_call0_call0_call0_v56 : Ref sig .tc := ⟨.hbm, 107, rfl⟩
abbrev main_call0_call0_call0_c_14 : Ref sig .tc := ⟨.hbm, 108, rfl⟩
abbrev main_call0_call0_call0_v57 : Ref sig .tc := ⟨.hbm, 109, rfl⟩
abbrev main_call0_call0_call0_v58 : Ref sig .tc := ⟨.hbm, 110, rfl⟩
abbrev main_call0_call0_call0_v59 : Ref sig .tc := ⟨.hbm, 111, rfl⟩
abbrev main_call0_call0_call0_v60 : Ref sig .tc := ⟨.hbm, 112, rfl⟩
abbrev main_call0_call0_call0_v61 : Ref sig .tc := ⟨.hbm, 113, rfl⟩
abbrev main_call0_call0_call0_c_15 : Ref sig .tc := ⟨.hbm, 114, rfl⟩
abbrev main_call0_call0_call0_v62 : Ref sig .tc := ⟨.hbm, 115, rfl⟩
abbrev main_call0_call0_call0_v63 : Ref sig .tc := ⟨.hbm, 116, rfl⟩
abbrev main_call0_call0_call0_c_16 : Ref sig .tc := ⟨.hbm, 117, rfl⟩
abbrev main_call0_call0_call0_v64 : Ref sig .tc := ⟨.hbm, 118, rfl⟩
abbrev main_call0_call0_call0_v65 : Ref sig .tc := ⟨.hbm, 119, rfl⟩
abbrev main_call0_call0_call0_v66 : Ref sig .tc := ⟨.hbm, 120, rfl⟩
abbrev main_call0_call0_call0_v67 : Ref sig .tc := ⟨.hbm, 121, rfl⟩
abbrev main_call0_call0_call0_v68 : Ref sig .tc := ⟨.hbm, 122, rfl⟩
abbrev main_call0_call0_call0_v69 : Ref sig .tc := ⟨.hbm, 123, rfl⟩
abbrev main_call0_call0_call0_v70 : Ref sig .tc := ⟨.hbm, 124, rfl⟩
abbrev main_call0_call0_call0_v71 : Ref sig .tc := ⟨.hbm, 125, rfl⟩
abbrev main_call0_call0_call0_c_17 : Ref sig .tc := ⟨.hbm, 126, rfl⟩
abbrev main_call0_call0_call0_v72 : Ref sig .tc := ⟨.hbm, 127, rfl⟩
abbrev main_call0_call0_call0_v73 : Ref sig .tc := ⟨.hbm, 128, rfl⟩
abbrev main_call0_call0_call0_v74 : Ref sig .tc := ⟨.hbm, 129, rfl⟩
abbrev main_call0_call0_call0_c_18 : Ref sig .tc := ⟨.hbm, 130, rfl⟩
abbrev main_call0_call0_call0_v75 : Ref sig .tc := ⟨.hbm, 131, rfl⟩
abbrev main_call0_call0_call0_v76 : Ref sig .tc := ⟨.hbm, 132, rfl⟩
abbrev main_call0_call0_call0_c_19 : Ref sig .tc := ⟨.hbm, 133, rfl⟩
abbrev main_call0_call0_call0_v77 : Ref sig .tc := ⟨.hbm, 134, rfl⟩
abbrev main_call0_call0_call0_v78 : Ref sig .tc := ⟨.hbm, 135, rfl⟩
abbrev main_call0_call0_call0_v79 : Ref sig .tc := ⟨.hbm, 136, rfl⟩
abbrev main_call0_call0_call0_v80 : Ref sig .tc := ⟨.hbm, 137, rfl⟩
abbrev main_call0_call0_call0_v81 : Ref sig .tc := ⟨.hbm, 138, rfl⟩
abbrev main_call0_call0_call0_c_20 : Ref sig .tc := ⟨.hbm, 139, rfl⟩
abbrev main_call0_call0_call0_v82 : Ref sig .tc := ⟨.hbm, 140, rfl⟩
abbrev main_call0_call0_call0_v83 : Ref sig .tc := ⟨.hbm, 141, rfl⟩
abbrev main_call0_call0_call0_c_21 : Ref sig .tc := ⟨.hbm, 142, rfl⟩
abbrev main_call0_call0_call0_v84 : Ref sig .tc := ⟨.hbm, 143, rfl⟩
abbrev main_call0_call0_call0_v85 : Ref sig .tc := ⟨.hbm, 144, rfl⟩
abbrev main_call0_call0_call0_v86 : Ref sig .tc := ⟨.hbm, 145, rfl⟩
abbrev main_call0_call0_call0_v87 : Ref sig .tc := ⟨.hbm, 146, rfl⟩
abbrev main_call0_call0_call0_v88 : Ref sig .tc := ⟨.hbm, 147, rfl⟩
abbrev main_call0_call0_call0_c_22 : Ref sig .tc := ⟨.hbm, 148, rfl⟩
abbrev main_call0_call0_call0_v89 : Ref sig .tc := ⟨.hbm, 149, rfl⟩
abbrev main_call0_call0_call0_v90 : Ref sig .tc := ⟨.hbm, 150, rfl⟩
abbrev main_call0_call0_call0_c_23 : Ref sig .tc := ⟨.hbm, 151, rfl⟩
abbrev main_call0_call0_call0_v91 : Ref sig .tc := ⟨.hbm, 152, rfl⟩
abbrev main_call0_call0_call0_v92 : Ref sig .tc := ⟨.hbm, 153, rfl⟩
abbrev main_call0_call0_call0_v93 : Ref sig .tc := ⟨.hbm, 154, rfl⟩
abbrev main_call0_call0_call0_v94 : Ref sig .tc := ⟨.hbm, 155, rfl⟩
abbrev main_call0_call0_call0_v95 : Ref sig .tc := ⟨.hbm, 156, rfl⟩
abbrev main_call0_call0_call0_c_24 : Ref sig .tc := ⟨.hbm, 157, rfl⟩
abbrev main_call0_call0_call0_v96 : Ref sig .tc := ⟨.hbm, 158, rfl⟩
abbrev main_call0_call0_call0_v97 : Ref sig .tc := ⟨.hbm, 159, rfl⟩
abbrev main_call0_call0_call0_c_25 : Ref sig .tc := ⟨.hbm, 160, rfl⟩
abbrev main_call0_call0_call0_v98 : Ref sig .tc := ⟨.hbm, 161, rfl⟩
abbrev main_call0_call0_call0_v99 : Ref sig .tc := ⟨.hbm, 162, rfl⟩
abbrev main_call0_call0_call0_v100 : Ref sig .tc := ⟨.hbm, 163, rfl⟩
abbrev main_call0_call0_call0_v101 : Ref sig .tc := ⟨.hbm, 164, rfl⟩
abbrev main_call0_call0_call0_v102 : Ref sig .tc := ⟨.hbm, 165, rfl⟩
abbrev main_call0_call0_call0_v103 : Ref sig .tc := ⟨.hbm, 166, rfl⟩
abbrev main_call0_call0_call0_v104 : Ref sig .tc := ⟨.hbm, 167, rfl⟩
abbrev main_call0_call0_call0_v105 : Ref sig .tc := ⟨.hbm, 168, rfl⟩
abbrev main_call0_call0_call0_c_26 : Ref sig .tc := ⟨.hbm, 169, rfl⟩
abbrev main_call0_call0_call0_v106 : Ref sig .tc := ⟨.hbm, 170, rfl⟩
abbrev main_call0_call0_call0_v107 : Ref sig .tc := ⟨.hbm, 171, rfl⟩
abbrev main_call0_call0_call0_v108 : Ref sig .tc := ⟨.hbm, 172, rfl⟩
abbrev main_call0_call0_call0_c_27 : Ref sig .tc := ⟨.hbm, 173, rfl⟩
abbrev main_call0_call0_call0_v109 : Ref sig .tc := ⟨.hbm, 174, rfl⟩
abbrev main_call0_call0_call0_v110 : Ref sig .tc := ⟨.hbm, 175, rfl⟩
abbrev main_call0_call0_call0_c_28 : Ref sig .tc := ⟨.hbm, 176, rfl⟩
abbrev main_call0_call0_call0_v111 : Ref sig .tc := ⟨.hbm, 177, rfl⟩
abbrev main_call0_call0_call0_v112 : Ref sig .tc := ⟨.hbm, 178, rfl⟩
abbrev main_call0_call0_call0_v113 : Ref sig .tc := ⟨.hbm, 179, rfl⟩
abbrev main_call0_call0_call0_v114 : Ref sig .tc := ⟨.hbm, 180, rfl⟩
abbrev main_call0_call0_call0_v115 : Ref sig .tc := ⟨.hbm, 181, rfl⟩
abbrev main_call0_call0_call0_c_29 : Ref sig .tc := ⟨.hbm, 182, rfl⟩
abbrev main_call0_call0_call0_v116 : Ref sig .tc := ⟨.hbm, 183, rfl⟩
abbrev main_call0_call0_call0_v117 : Ref sig .tc := ⟨.hbm, 184, rfl⟩
abbrev main_call0_call0_call0_c_30 : Ref sig .tc := ⟨.hbm, 185, rfl⟩
abbrev main_call0_call0_call0_v118 : Ref sig .tc := ⟨.hbm, 186, rfl⟩
abbrev main_call0_call0_call0_v119 : Ref sig .tc := ⟨.hbm, 187, rfl⟩
abbrev main_call0_call0_call0_v120 : Ref sig .tc := ⟨.hbm, 188, rfl⟩
abbrev main_call0_call0_call0_v121 : Ref sig .tc := ⟨.hbm, 189, rfl⟩
abbrev main_call0_call0_call0_v122 : Ref sig .tc := ⟨.hbm, 190, rfl⟩
abbrev main_call0_call0_call0_c_31 : Ref sig .tc := ⟨.hbm, 191, rfl⟩
abbrev main_call0_call0_call0_v123 : Ref sig .tc := ⟨.hbm, 192, rfl⟩
abbrev main_call0_call0_call0_v124 : Ref sig .tc := ⟨.hbm, 193, rfl⟩
abbrev main_call0_call0_call0_c_32 : Ref sig .tc := ⟨.hbm, 194, rfl⟩
abbrev main_call0_call0_call0_v125 : Ref sig .tc := ⟨.hbm, 195, rfl⟩
abbrev main_call0_call0_call0_v126 : Ref sig .tc := ⟨.hbm, 196, rfl⟩
abbrev main_call0_call0_call0_v127 : Ref sig .tc := ⟨.hbm, 197, rfl⟩
abbrev main_call0_call0_call0_v128 : Ref sig .tc := ⟨.hbm, 198, rfl⟩
abbrev main_call0_call0_call0_v129 : Ref sig .tc := ⟨.hbm, 199, rfl⟩
abbrev main_call0_call0_call0_c_33 : Ref sig .tc := ⟨.hbm, 200, rfl⟩
abbrev main_call0_call0_call0_v130 : Ref sig .tc := ⟨.hbm, 201, rfl⟩
abbrev main_call0_call0_call0_v131 : Ref sig .tc := ⟨.hbm, 202, rfl⟩
abbrev main_call0_call0_call0_c_34 : Ref sig .tc := ⟨.hbm, 203, rfl⟩
abbrev main_call0_call0_call0_v132 : Ref sig .tc := ⟨.hbm, 204, rfl⟩
abbrev main_call0_call0_call0_v133 : Ref sig .tc := ⟨.hbm, 205, rfl⟩
abbrev main_call0_call0_call0_v134 : Ref sig .tc := ⟨.hbm, 206, rfl⟩
abbrev main_call0_call0_call0_v135 : Ref sig .tc := ⟨.hbm, 207, rfl⟩
abbrev main_call0_call0_call0_v136 : Ref sig .tc := ⟨.hbm, 208, rfl⟩
abbrev main_call0_call0_call0_v137 : Ref sig .tc := ⟨.hbm, 209, rfl⟩
abbrev main_call0_call0_call0_v138 : Ref sig .tc := ⟨.hbm, 210, rfl⟩
abbrev main_call0_call0_call0_v139 : Ref sig .tc := ⟨.hbm, 211, rfl⟩
abbrev main_call0_call0_call0_c_35 : Ref sig .tc := ⟨.hbm, 212, rfl⟩
abbrev main_call0_call0_call0_v140 : Ref sig .tc := ⟨.hbm, 213, rfl⟩
abbrev main_call0_call0_call0_v141 : Ref sig .tc := ⟨.hbm, 214, rfl⟩
abbrev main_call0_call0_call0_v142 : Ref sig .tc := ⟨.hbm, 215, rfl⟩
abbrev main_call0_call0_call0_c_36 : Ref sig .tc := ⟨.hbm, 216, rfl⟩
abbrev main_call0_call0_call0_v143 : Ref sig .tc := ⟨.hbm, 217, rfl⟩
abbrev main_call0_call0_call0_v144 : Ref sig .tc := ⟨.hbm, 218, rfl⟩
abbrev main_call0_call0_call0_c_37 : Ref sig .tc := ⟨.hbm, 219, rfl⟩
abbrev main_call0_call0_call0_v145 : Ref sig .tc := ⟨.hbm, 220, rfl⟩
abbrev main_call0_call0_call0_v146 : Ref sig .tc := ⟨.hbm, 221, rfl⟩
abbrev main_call0_call0_call0_v147 : Ref sig .tc := ⟨.hbm, 222, rfl⟩
abbrev main_call0_call0_call0_v148 : Ref sig .tc := ⟨.hbm, 223, rfl⟩
abbrev main_call0_call0_call0_v149 : Ref sig .tc := ⟨.hbm, 224, rfl⟩
abbrev main_call0_call0_call0_c_38 : Ref sig .tc := ⟨.hbm, 225, rfl⟩
abbrev main_call0_call0_call0_v150 : Ref sig .tc := ⟨.hbm, 226, rfl⟩
abbrev main_call0_call0_call0_v151 : Ref sig .tc := ⟨.hbm, 227, rfl⟩
abbrev main_call0_call0_call0_c_39 : Ref sig .tc := ⟨.hbm, 228, rfl⟩
abbrev main_call0_call0_call0_v152 : Ref sig .tc := ⟨.hbm, 229, rfl⟩
abbrev main_call0_call0_call0_v153 : Ref sig .tc := ⟨.hbm, 230, rfl⟩
abbrev main_call0_call0_call0_v154 : Ref sig .tc := ⟨.hbm, 231, rfl⟩
abbrev main_call0_call0_call0_v155 : Ref sig .tc := ⟨.hbm, 232, rfl⟩
abbrev main_call0_call0_call0_v156 : Ref sig .tc := ⟨.hbm, 233, rfl⟩
abbrev main_call0_call0_call0_c_40 : Ref sig .tc := ⟨.hbm, 234, rfl⟩
abbrev main_call0_call0_call0_v157 : Ref sig .tc := ⟨.hbm, 235, rfl⟩
abbrev main_call0_call0_call0_v158 : Ref sig .tc := ⟨.hbm, 236, rfl⟩
abbrev main_call0_call0_call0_c_41 : Ref sig .tc := ⟨.hbm, 237, rfl⟩
abbrev main_call0_call0_call0_v159 : Ref sig .tc := ⟨.hbm, 238, rfl⟩
abbrev main_call0_call0_call0_v160 : Ref sig .tc := ⟨.hbm, 239, rfl⟩
abbrev main_call0_call0_call0_v161 : Ref sig .tc := ⟨.hbm, 240, rfl⟩
abbrev main_call0_call0_call0_v162 : Ref sig .tc := ⟨.hbm, 241, rfl⟩
abbrev main_call0_call0_call0_v163 : Ref sig .tc := ⟨.hbm, 242, rfl⟩
abbrev main_call0_call0_call0_c_42 : Ref sig .tc := ⟨.hbm, 243, rfl⟩
abbrev main_call0_call0_call0_v164 : Ref sig .tc := ⟨.hbm, 244, rfl⟩
abbrev main_call0_call0_call0_v165 : Ref sig .tc := ⟨.hbm, 245, rfl⟩
abbrev main_call0_call0_call0_c_43 : Ref sig .tc := ⟨.hbm, 246, rfl⟩
abbrev main_call0_call0_call0_v166 : Ref sig .tc := ⟨.hbm, 247, rfl⟩
abbrev main_call0_call0_call0_v167 : Ref sig .tc := ⟨.hbm, 248, rfl⟩
abbrev main_call0_call0_call0_v168 : Ref sig .tc := ⟨.hbm, 249, rfl⟩
abbrev main_call0_call0_call0_v169 : Ref sig .tc := ⟨.hbm, 250, rfl⟩
abbrev main_call0_call0_call0_v170 : Ref sig .tc := ⟨.hbm, 251, rfl⟩
abbrev main_call0_call0_v18_0 : Ref sig .tc := ⟨.hbm, 252, rfl⟩
abbrev main_call0_call0_call0_v172 : Ref sig .tc := ⟨.hbm, 253, rfl⟩
abbrev main_call0_call0_call0_v173 : Ref sig .tc := ⟨.hbm, 254, rfl⟩
abbrev main_call0_call0_call0_c_44 : Ref sig .tc := ⟨.hbm, 255, rfl⟩
abbrev main_call0_call0_call0_v174 : Ref sig .tc := ⟨.hbm, 256, rfl⟩
abbrev main_call0_call0_v18_1 : Ref sig .tc := ⟨.hbm, 257, rfl⟩
abbrev main_call0_call0_v19 : Ref sig .tc := ⟨.hbm, 258, rfl⟩
abbrev main_call0_call0_c_2 : Ref sig .tc := ⟨.hbm, 259, rfl⟩
abbrev main_call0_call0_v20 : Ref sig .tc := ⟨.hbm, 260, rfl⟩
abbrev main_call0_call0_v21 : Ref sig .tc := ⟨.hbm, 261, rfl⟩
abbrev main_call0_call0_c_3 : Ref sig .tc := ⟨.hbm, 262, rfl⟩
abbrev main_call0_call0_v22 : Ref sig .tc := ⟨.hbm, 263, rfl⟩
abbrev main_call0_call0_v23 : Ref sig .tc := ⟨.hbm, 264, rfl⟩
abbrev main_call0_call0_v24 : Ref sig .tc := ⟨.hbm, 265, rfl⟩
abbrev main_call0_call0_cst : Ref sig .tc := ⟨.hbm, 266, rfl⟩
abbrev main_call0_call0_v25 : Ref sig .tc := ⟨.hbm, 267, rfl⟩
abbrev main_call0_call0_v26 : Ref sig .tc := ⟨.hbm, 268, rfl⟩
abbrev main_call0_call0_v27 : Ref sig .tc := ⟨.hbm, 269, rfl⟩
abbrev main_call0_call0_v28 : Ref sig .tc := ⟨.hbm, 270, rfl⟩
abbrev main_call0_call0_v29 : Ref sig .tc := ⟨.hbm, 271, rfl⟩
abbrev main_call0_call0_v30 : Ref sig .tc := ⟨.hbm, 272, rfl⟩
abbrev main_call0_call0_v31 : Ref sig .tc := ⟨.hbm, 273, rfl⟩
abbrev main_call0_call0_v32 : Ref sig .tc := ⟨.hbm, 274, rfl⟩
abbrev main_call0_v0 : Ref sig .tc := ⟨.hbm, 275, rfl⟩
abbrev main_call0_v1 : Ref sig .tc := ⟨.hbm, 276, rfl⟩
abbrev main_call0_v2 : Ref sig .tc := ⟨.hbm, 277, rfl⟩
abbrev main_call0_v3 : Ref sig .tc := ⟨.hbm, 278, rfl⟩
abbrev main_v7 : Ref sig .tc := ⟨.hbm, 279, rfl⟩
abbrev main_v8 : Ref sig .tc := ⟨.hbm, 280, rfl⟩
abbrev main_v9 : Ref sig .tc := ⟨.hbm, 281, rfl⟩
abbrev main_v10 : Ref sig .tc := ⟨.hbm, 282, rfl⟩
abbrev main_v11 : Ref sig .tc := ⟨.hbm, 283, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![49], ![false]⟩

def k0_cond3 (i : grid0.Coords) : BitVec 1 :=
  let arg0 : BitVec 32 := BitVec.ofNat 32 (i 0).val
  let c48_i32 : BitVec 32 := 48#32
  let v32 : BitVec 1 := Scalar.cmpi .eq arg0 c48_i32
  let v33 : BitVec 32 := Scalar.extui v32
  let c0_i32_13 : BitVec 32 := 0#32
  let v34 : BitVec 1 := Scalar.cmpi .ne v33 c0_i32_13
  v34

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S128x1024 : Shape := ⟨2, ![128, 1024]⟩
abbrev S1024x100000 : Shape := ⟨2, ![1024, 100000]⟩
abbrev S100000 : Shape := ⟨1, ![100000]⟩
abbrev S128x100000 : Shape := ⟨2, ![128, 100000]⟩
abbrev S1x100000 : Shape := ⟨2, ![1, 100000]⟩
abbrev S_ : Shape := ⟨0, ![]⟩
abbrev S128 : Shape := ⟨1, ![128]⟩
abbrev S128x1 : Shape := ⟨2, ![128, 1]⟩
abbrev S1 : Shape := ⟨1, ![1]⟩
abbrev S2 : Shape := ⟨1, ![2]⟩
abbrev S1x1 : Shape := ⟨2, ![1, 1]⟩

abbrev nBuf : Space → Nat
  | .hbm => 309
  | .vmem => 0
  | .smem => 0
  | _ => 0

abbrev hbmTy0_0 (i : Nat) : BufTy := match i % 128 with
  | 0 => ⟨S128x1024, .f32⟩
  | 1 => ⟨S1024x100000, .f32⟩
  | 2 => ⟨S100000, .f32⟩
  | 3 => ⟨S128x100000, .f32⟩
  | 4 => ⟨S1x100000, .f32⟩
  | 5 => ⟨S128x100000, .f32⟩
  | 6 => ⟨S128x100000, .f32⟩
  | 7 => ⟨S_, .f32⟩
  | 8 => ⟨S128, .f32⟩
  | 9 => ⟨S_, .f32⟩
  | 10 => ⟨S128, .f32⟩
  | 11 => ⟨S128, .f32⟩
  | 12 => ⟨S128x1, .f32⟩
  | 13 => ⟨S128x100000, .f32⟩
  | 14 => ⟨S128x100000, .f32⟩
  | 15 => ⟨S128x100000, .f32⟩
  | 16 => ⟨S_, .f32⟩
  | 17 => ⟨S128, .f32⟩
  | 18 => ⟨S128x1, .f32⟩
  | 19 => ⟨S128x100000, .f32⟩
  | 20 => ⟨S128x100000, .f32⟩
  | 21 => ⟨S_, .i32⟩
  | 22 => ⟨S_, .i32⟩
  | 23 => ⟨S_, .i32⟩
  | 24 => ⟨S_, .i32⟩
  | 25 => ⟨S1, .i32⟩
  | 26 => ⟨S_, .i32⟩
  | 27 => ⟨S_, .i32⟩
  | 28 => ⟨S_, .i32⟩
  | 29 => ⟨S1, .i32⟩
  | 30 => ⟨S2, .i32⟩
  | 31 => ⟨S_, .f32⟩
  | 32 => ⟨S128x100000, .f32⟩
  | 33 => ⟨S128x100000, .f32⟩
  | 34 => ⟨S128x100000, .f32⟩
  | 35 => ⟨S_, .f32⟩
  | 36 => ⟨S_, .f32⟩
  | 37 => ⟨S_, .f32⟩
  | 38 => ⟨S1x1, .f32⟩
  | 39 => ⟨S1x1, .f32⟩
  | 40 => ⟨S1, .i32⟩
  | 41 => ⟨S_, .i32⟩
  | 42 => ⟨S1, .i32⟩
  | 43 => ⟨S_, .i32⟩
  | 44 => ⟨S128x100000, .i64⟩
  | 45 => ⟨S128x100000, .i64⟩
  | 46 => ⟨S_, .i64⟩
  | 47 => ⟨S128x100000, .i64⟩
  | 48 => ⟨S128x100000, .i64⟩
  | 49 => ⟨S_, .i64⟩
  | 50 => ⟨S128x100000, .i64⟩
  | 51 => ⟨S128x100000, .i64⟩
  | 52 => ⟨S128x100000, .i64⟩
  | 53 => ⟨S_, .i64⟩
  | 54 => ⟨S128x100000, .i64⟩
  | 55 => ⟨S128x100000, .i64⟩
  | 56 => ⟨S128x100000, .i32⟩
  | 57 => ⟨S128x100000, .i32⟩
  | 58 => ⟨S_, .i32⟩
  | 59 => ⟨S_, .i32⟩
  | 60 => ⟨S_, .i32⟩
  | 61 => ⟨S128x100000, .i32⟩
  | 62 => ⟨S128x100000, .i32⟩
  | 63 => ⟨S128x100000, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S_, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S_, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S128x100000, .i32⟩
  | 91 => ⟨S128x100000, .i32⟩
  | 92 => ⟨S128x100000, .i32⟩
  | 93 => ⟨S_, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S_, .i32⟩
  | 113 => ⟨S128x100000, .i32⟩
  | 114 => ⟨S128x100000, .i32⟩
  | 115 => ⟨S128x100000, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S_, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S_, .i32⟩
  | _ => ⟨S128x1024, .f32⟩

abbrev hbmTy0_1 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S128x100000, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S_, .i32⟩
  | 12 => ⟨S128x100000, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S_, .i32⟩
  | 21 => ⟨S128x100000, .i32⟩
  | 22 => ⟨S128x100000, .i32⟩
  | 23 => ⟨S128x100000, .i32⟩
  | 24 => ⟨S_, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S128x100000, .i32⟩
  | 31 => ⟨S128x100000, .i32⟩
  | 32 => ⟨S128x100000, .i32⟩
  | 33 => ⟨S_, .i32⟩
  | 34 => ⟨S128x100000, .i32⟩
  | 35 => ⟨S128x100000, .i32⟩
  | 36 => ⟨S_, .i32⟩
  | 37 => ⟨S128x100000, .i32⟩
  | 38 => ⟨S128x100000, .i32⟩
  | 39 => ⟨S128x100000, .i32⟩
  | 40 => ⟨S128x100000, .i32⟩
  | 41 => ⟨S128x100000, .i32⟩
  | 42 => ⟨S_, .i32⟩
  | 43 => ⟨S128x100000, .i32⟩
  | 44 => ⟨S128x100000, .i32⟩
  | 45 => ⟨S_, .i32⟩
  | 46 => ⟨S128x100000, .i32⟩
  | 47 => ⟨S128x100000, .i32⟩
  | 48 => ⟨S128x100000, .i32⟩
  | 49 => ⟨S128x100000, .i32⟩
  | 50 => ⟨S128x100000, .i32⟩
  | 51 => ⟨S_, .i32⟩
  | 52 => ⟨S128x100000, .i32⟩
  | 53 => ⟨S128x100000, .i32⟩
  | 54 => ⟨S_, .i32⟩
  | 55 => ⟨S128x100000, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S128x100000, .i32⟩
  | 63 => ⟨S_, .i32⟩
  | 64 => ⟨S128x100000, .i32⟩
  | 65 => ⟨S128x100000, .i32⟩
  | 66 => ⟨S128x100000, .i32⟩
  | 67 => ⟨S_, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S128x100000, .i32⟩
  | 74 => ⟨S128x100000, .i32⟩
  | 75 => ⟨S128x100000, .i32⟩
  | 76 => ⟨S_, .i32⟩
  | 77 => ⟨S128x100000, .i32⟩
  | 78 => ⟨S128x100000, .i32⟩
  | 79 => ⟨S_, .i32⟩
  | 80 => ⟨S128x100000, .i32⟩
  | 81 => ⟨S128x100000, .i32⟩
  | 82 => ⟨S128x100000, .i32⟩
  | 83 => ⟨S128x100000, .i32⟩
  | 84 => ⟨S128x100000, .i32⟩
  | 85 => ⟨S_, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S128x100000, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S_, .i32⟩
  | 123 => ⟨S128x100000, .i32⟩
  | 124 => ⟨S128x100000, .i32⟩
  | 125 => ⟨S128x100000, .i32⟩
  | 126 => ⟨S128x100000, .i32⟩
  | 127 => ⟨S128x100000, .i32⟩
  | _ => ⟨S128x1024, .f32⟩

abbrev hbmTy0_2 (i : Nat) : BufTy := match i % 128 with
  | 0 => ⟨S_, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S128x100000, .i32⟩
  | 7 => ⟨S128x100000, .i32⟩
  | 8 => ⟨S128x100000, .i32⟩
  | 9 => ⟨S_, .i32⟩
  | 10 => ⟨S128x100000, .i32⟩
  | 11 => ⟨S128x100000, .i32⟩
  | 12 => ⟨S_, .i32⟩
  | 13 => ⟨S128x100000, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S128x100000, .i32⟩
  | 21 => ⟨S_, .i32⟩
  | 22 => ⟨S128x100000, .i32⟩
  | 23 => ⟨S128x100000, .i32⟩
  | 24 => ⟨S128x100000, .i32⟩
  | 25 => ⟨S_, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S128x100000, .f32⟩
  | 32 => ⟨S_, .f32⟩
  | 33 => ⟨S128x100000, .f32⟩
  | 34 => ⟨S128x100000, .f32⟩
  | 35 => ⟨S1x1, .f32⟩
  | 36 => ⟨S128x100000, .f32⟩
  | 37 => ⟨S128x100000, .f32⟩
  | 38 => ⟨S128x100000, .f32⟩
  | 39 => ⟨S128x100000, .f32⟩
  | 40 => ⟨S128x100000, .f32⟩
  | 41 => ⟨S128x100000, .f32⟩
  | 42 => ⟨S128x100000, .f32⟩
  | 43 => ⟨S128x100000, .f32⟩
  | 44 => ⟨S128x100000, .f32⟩
  | 45 => ⟨S128x100000, .f32⟩
  | 46 => ⟨S128x100000, .f32⟩
  | 47 => ⟨S128x100000, .i32⟩
  | 48 => ⟨S_, .f32⟩
  | 49 => ⟨S_, .i32⟩
  | 50 => ⟨S128, .f32⟩
  | 51 => ⟨S128, .i32⟩
  | 52 => ⟨S128x1, .i32⟩
  | _ => ⟨S128x1024, .f32⟩

abbrev hbmTy (i : Nat) : BufTy := match i / 128 with
  | 0 => hbmTy0_0 i
  | 1 => hbmTy0_1 i
  | 2 => hbmTy0_2 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_cst : Ref sig .tc := ⟨.hbm, 35, rfl⟩
abbrev main_call0_cst_0 : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_c_0 : Ref sig .tc := ⟨.hbm, 49, rfl⟩
abbrev main_call0_call0_v11 : Ref sig .tc := ⟨.hbm, 50, rfl⟩
abbrev main_call0_call0_v12 : Ref sig .tc := ⟨.hbm, 51, rfl⟩
abbrev main_call0_call0_v13 : Ref sig .tc := ⟨.hbm, 52, rfl⟩
abbrev main_call0_call0_c_1 : Ref sig .tc := ⟨.hbm, 53, rfl⟩
abbrev main_call0_call0_v14 : Ref sig .tc := ⟨.hbm, 54, rfl⟩
abbrev main_call0_call0_v15 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_call0_v0 : Ref sig .tc := ⟨.hbm, 58, rfl⟩
abbrev main_call0_call0_call0_c : Ref sig .tc := ⟨.hbm, 59, rfl⟩
abbrev main_call0_call0_call0_v1 : Ref sig .tc := ⟨.hbm, 60, rfl⟩
abbrev main_call0_call0_call0_v2 : Ref sig .tc := ⟨.hbm, 61, rfl⟩
abbrev main_call0_call0_call0_v3 : Ref sig .tc := ⟨.hbm, 62, rfl⟩
abbrev main_call0_call0_call0_v4 : Ref sig .tc := ⟨.hbm, 63, rfl⟩
abbrev main_call0_call0_call0_v5 : Ref sig .tc := ⟨.hbm, 64, rfl⟩
abbrev main_call0_call0_call0_v6 : Ref sig .tc := ⟨.hbm, 65, rfl⟩
abbrev main_call0_call0_call0_c_0 : Ref sig .tc := ⟨.hbm, 66, rfl⟩
abbrev main_call0_call0_call0_v7 : Ref sig .tc := ⟨.hbm, 67, rfl⟩
abbrev main_call0_call0_call0_v8 : Ref sig .tc := ⟨.hbm, 68, rfl⟩
abbrev main_call0_call0_call0_c_1 : Ref sig .tc := ⟨.hbm, 69, rfl⟩
abbrev main_call0_call0_call0_v9 : Ref sig .tc := ⟨.hbm, 70, rfl⟩
abbrev main_call0_call0_call0_v10 : Ref sig .tc := ⟨.hbm, 71, rfl⟩
abbrev main_call0_call0_call0_v11 : Ref sig .tc := ⟨.hbm, 72, rfl⟩
abbrev main_call0_call0_call0_v12 : Ref sig .tc := ⟨.hbm, 73, rfl⟩
abbrev main_call0_call0_call0_v13 : Ref sig .tc := ⟨.hbm, 74, rfl⟩
abbrev main_call0_call0_call0_c_2 : Ref sig .tc := ⟨.hbm, 75, rfl⟩
abbrev main_call0_call0_call0_v14 : Ref sig .tc := ⟨.hbm, 76, rfl⟩
abbrev main_call0_call0_call0_v15 : Ref sig .tc := ⟨.hbm, 77, rfl⟩
abbrev main_call0_call0_call0_c_3 : Ref sig .tc := ⟨.hbm, 78, rfl⟩
abbrev main_call0_call0_call0_v16 : Ref sig .tc := ⟨.hbm, 79, rfl⟩
abbrev main_call0_call0_call0_v17 : Ref sig .tc := ⟨.hbm, 80, rfl⟩
abbrev main_call0_call0_call0_v18 : Ref sig .tc := ⟨.hbm, 81, rfl⟩
abbrev main_call0_call0_call0_v19 : Ref sig .tc := ⟨.hbm, 82, rfl⟩
abbrev main_call0_call0_call0_v20 : Ref sig .tc := ⟨.hbm, 83, rfl⟩
abbrev main_call0_call0_call0_c_4 : Ref sig .tc := ⟨.hbm, 84, rfl⟩
abbrev main_call0_call0_call0_v21 : Ref sig .tc := ⟨.hbm, 85, rfl⟩
abbrev main_call0_call0_call0_v22 : Ref sig .tc := ⟨.hbm, 86, rfl⟩
abbrev main_call0_call0_call0_c_5 : Ref sig .tc := ⟨.hbm, 87, rfl⟩
abbrev main_call0_call0_call0_v23 : Ref sig .tc := ⟨.hbm, 88, rfl⟩
abbrev main_call0_call0_call0_v24 : Ref sig .tc := ⟨.hbm, 89, rfl⟩
abbrev main_call0_call0_call0_v25 : Ref sig .tc := ⟨.hbm, 90, rfl⟩
abbrev main_call0_call0_call0_v26 : Ref sig .tc := ⟨.hbm, 91, rfl⟩
abbrev main_call0_call0_call0_v27 : Ref sig .tc := ⟨.hbm, 92, rfl⟩
abbrev main_call0_call0_call0_c_6 : Ref sig .tc := ⟨.hbm, 93, rfl⟩
abbrev main_call0_call0_call0_v28 : Ref sig .tc := ⟨.hbm, 94, rfl⟩
abbrev main_call0_call0_call0_v29 : Ref sig .tc := ⟨.hbm, 95, rfl⟩
abbrev main_call0_call0_call0_c_7 : Ref sig .tc := ⟨.hbm, 96, rfl⟩
abbrev main_call0_call0_call0_v30 : Ref sig .tc := ⟨.hbm, 97, rfl⟩
abbrev main_call0_call0_call0_v31 : Ref sig .tc := ⟨.hbm, 98, rfl⟩
abbrev main_call0_call0_call0_v32 : Ref sig .tc := ⟨.hbm, 99, rfl⟩
abbrev main_call0_call0_call0_v33 : Ref sig .tc := ⟨.hbm, 100, rfl⟩
abbrev main_call0_call0_call0_v34 : Ref sig .tc := ⟨.hbm, 101, rfl⟩
abbrev main_call0_call0_call0_v35 : Ref sig .tc := ⟨.hbm, 102, rfl⟩
abbrev main_call0_call0_call0_v36 : Ref sig .tc := ⟨.hbm, 103, rfl⟩
abbrev main_call0_call0_call0_v37 : Ref sig .tc := ⟨.hbm, 104, rfl⟩
abbrev main_call0_call0_call0_c_8 : Ref sig .tc := ⟨.hbm, 105, rfl⟩
abbrev main_call0_call0_call0_v38 : Ref sig .tc := ⟨.hbm, 106, rfl⟩
abbrev main_call0_call0_call0_v39 : Ref sig .tc := ⟨.hbm, 107, rfl⟩
abbrev main_call0_call0_call0_v40 : Ref sig .tc := ⟨.hbm, 108, rfl⟩
abbrev main_call0_call0_call0_c_9 : Ref sig .tc := ⟨.hbm, 109, rfl⟩
abbrev main_call0_call0_call0_v41 : Ref sig .tc := ⟨.hbm, 110, rfl⟩
abbrev main_call0_call0_call0_v42 : Ref sig .tc := ⟨.hbm, 111, rfl⟩
abbrev main_call0_call0_call0_c_10 : Ref sig .tc := ⟨.hbm, 112, rfl⟩
abbrev main_call0_call0_call0_v43 : Ref sig .tc := ⟨.hbm, 113, rfl⟩
abbrev main_call0_call0_call0_v44 : Ref sig .tc := ⟨.hbm, 114, rfl⟩
abbrev main_call0_call0_call0_v45 : Ref sig .tc := ⟨.hbm, 115, rfl⟩
abbrev main_call0_call0_call0_v46 : Ref sig .tc := ⟨.hbm, 116, rfl⟩
abbrev main_call0_call0_call0_v47 : Ref sig .tc := ⟨.hbm, 117, rfl⟩
abbrev main_call0_call0_call0_c_11 : Ref sig .tc := ⟨.hbm, 118, rfl⟩
abbrev main_call0_call0_call0_v48 : Ref sig .tc := ⟨.hbm, 119, rfl⟩
abbrev main_call0_call0_call0_v49 : Ref sig .tc := ⟨.hbm, 120, rfl⟩
abbrev main_call0_call0_call0_c_12 : Ref sig .tc := ⟨.hbm, 121, rfl⟩
abbrev main_call0_call0_call0_v50 : Ref sig .tc := ⟨.hbm, 122, rfl⟩
abbrev main_call0_call0_call0_v51 : Ref sig .tc := ⟨.hbm, 123, rfl⟩
abbrev main_call0_call0_call0_v52 : Ref sig .tc := ⟨.hbm, 124, rfl⟩
abbrev main_call0_call0_call0_v53 : Ref sig .tc := ⟨.hbm, 125, rfl⟩
abbrev main_call0_call0_call0_v54 : Ref sig .tc := ⟨.hbm, 126, rfl⟩
abbrev main_call0_call0_call0_c_13 : Ref sig .tc := ⟨.hbm, 127, rfl⟩
abbrev main_call0_call0_call0_v55 : Ref sig .tc := ⟨.hbm, 128, rfl⟩
abbrev main_call0_call0_call0_v56 : Ref sig .tc := ⟨.hbm, 129, rfl⟩
abbrev main_call0_call0_call0_c_14 : Ref sig .tc := ⟨.hbm, 130, rfl⟩
abbrev main_call0_call0_call0_v57 : Ref sig .tc := ⟨.hbm, 131, rfl⟩
abbrev main_call0_call0_call0_v58 : Ref sig .tc := ⟨.hbm, 132, rfl⟩
abbrev main_call0_call0_call0_v59 : Ref sig .tc := ⟨.hbm, 133, rfl⟩
abbrev main_call0_call0_call0_v60 : Ref sig .tc := ⟨.hbm, 134, rfl⟩
abbrev main_call0_call0_call0_v61 : Ref sig .tc := ⟨.hbm, 135, rfl⟩
abbrev main_call0_call0_call0_c_15 : Ref sig .tc := ⟨.hbm, 136, rfl⟩
abbrev main_call0_call0_call0_v62 : Ref sig .tc := ⟨.hbm, 137, rfl⟩
abbrev main_call0_call0_call0_v63 : Ref sig .tc := ⟨.hbm, 138, rfl⟩
abbrev main_call0_call0_call0_c_16 : Ref sig .tc := ⟨.hbm, 139, rfl⟩
abbrev main_call0_call0_call0_v64 : Ref sig .tc := ⟨.hbm, 140, rfl⟩
abbrev main_call0_call0_call0_v65 : Ref sig .tc := ⟨.hbm, 141, rfl⟩
abbrev main_call0_call0_call0_v66 : Ref sig .tc := ⟨.hbm, 142, rfl⟩
abbrev main_call0_call0_call0_v67 : Ref sig .tc := ⟨.hbm, 143, rfl⟩
abbrev main_call0_call0_call0_v68 : Ref sig .tc := ⟨.hbm, 144, rfl⟩
abbrev main_call0_call0_call0_v69 : Ref sig .tc := ⟨.hbm, 145, rfl⟩
abbrev main_call0_call0_call0_v70 : Ref sig .tc := ⟨.hbm, 146, rfl⟩
abbrev main_call0_call0_call0_v71 : Ref sig .tc := ⟨.hbm, 147, rfl⟩
abbrev main_call0_call0_call0_c_17 : Ref sig .tc := ⟨.hbm, 148, rfl⟩
abbrev main_call0_call0_call0_v72 : Ref sig .tc := ⟨.hbm, 149, rfl⟩
abbrev main_call0_call0_call0_v73 : Ref sig .tc := ⟨.hbm, 150, rfl⟩
abbrev main_call0_call0_call0_v74 : Ref sig .tc := ⟨.hbm, 151, rfl⟩
abbrev main_call0_call0_call0_c_18 : Ref sig .tc := ⟨.hbm, 152, rfl⟩
abbrev main_call0_call0_call0_v75 : Ref sig .tc := ⟨.hbm, 153, rfl⟩
abbrev main_call0_call0_call0_v76 : Ref sig .tc := ⟨.hbm, 154, rfl⟩
abbrev main_call0_call0_call0_c_19 : Ref sig .tc := ⟨.hbm, 155, rfl⟩
abbrev main_call0_call0_call0_v77 : Ref sig .tc := ⟨.hbm, 156, rfl⟩
abbrev main_call0_call0_call0_v78 : Ref sig .tc := ⟨.hbm, 157, rfl⟩
abbrev main_call0_call0_call0_v79 : Ref sig .tc := ⟨.hbm, 158, rfl⟩
abbrev main_call0_call0_call0_v80 : Ref sig .tc := ⟨.hbm, 159, rfl⟩
abbrev main_call0_call0_call0_v81 : Ref sig .tc := ⟨.hbm, 160, rfl⟩
abbrev main_call0_call0_call0_c_20 : Ref sig .tc := ⟨.hbm, 161, rfl⟩
abbrev main_call0_call0_call0_v82 : Ref sig .tc := ⟨.hbm, 162, rfl⟩
abbrev main_call0_call0_call0_v83 : Ref sig .tc := ⟨.hbm, 163, rfl⟩
abbrev main_call0_call0_call0_c_21 : Ref sig .tc := ⟨.hbm, 164, rfl⟩
abbrev main_call0_call0_call0_v84 : Ref sig .tc := ⟨.hbm, 165, rfl⟩
abbrev main_call0_call0_call0_v85 : Ref sig .tc := ⟨.hbm, 166, rfl⟩
abbrev main_call0_call0_call0_v86 : Ref sig .tc := ⟨.hbm, 167, rfl⟩
abbrev main_call0_call0_call0_v87 : Ref sig .tc := ⟨.hbm, 168, rfl⟩
abbrev main_call0_call0_call0_v88 : Ref sig .tc := ⟨.hbm, 169, rfl⟩
abbrev main_call0_call0_call0_c_22 : Ref sig .tc := ⟨.hbm, 170, rfl⟩
abbrev main_call0_call0_call0_v89 : Ref sig .tc := ⟨.hbm, 171, rfl⟩
abbrev main_call0_call0_call0_v90 : Ref sig .tc := ⟨.hbm, 172, rfl⟩
abbrev main_call0_call0_call0_c_23 : Ref sig .tc := ⟨.hbm, 173, rfl⟩
abbrev main_call0_call0_call0_v91 : Ref sig .tc := ⟨.hbm, 174, rfl⟩
abbrev main_call0_call0_call0_v92 : Ref sig .tc := ⟨.hbm, 175, rfl⟩
abbrev main_call0_call0_call0_v93 : Ref sig .tc := ⟨.hbm, 176, rfl⟩
abbrev main_call0_call0_call0_v94 : Ref sig .tc := ⟨.hbm, 177, rfl⟩
abbrev main_call0_call0_call0_v95 : Ref sig .tc := ⟨.hbm, 178, rfl⟩
abbrev main_call0_call0_call0_c_24 : Ref sig .tc := ⟨.hbm, 179, rfl⟩
abbrev main_call0_call0_call0_v96 : Ref sig .tc := ⟨.hbm, 180, rfl⟩
abbrev main_call0_call0_call0_v97 : Ref sig .tc := ⟨.hbm, 181, rfl⟩
abbrev main_call0_call0_call0_c_25 : Ref sig .tc := ⟨.hbm, 182, rfl⟩
abbrev main_call0_call0_call0_v98 : Ref sig .tc := ⟨.hbm, 183, rfl⟩
abbrev main_call0_call0_call0_v99 : Ref sig .tc := ⟨.hbm, 184, rfl⟩
abbrev main_call0_call0_call0_v100 : Ref sig .tc := ⟨.hbm, 185, rfl⟩
abbrev main_call0_call0_call0_v101 : Ref sig .tc := ⟨.hbm, 186, rfl⟩
abbrev main_call0_call0_call0_v102 : Ref sig .tc := ⟨.hbm, 187, rfl⟩
abbrev main_call0_call0_call0_v103 : Ref sig .tc := ⟨.hbm, 188, rfl⟩
abbrev main_call0_call0_call0_v104 : Ref sig .tc := ⟨.hbm, 189, rfl⟩
abbrev main_call0_call0_call0_v105 : Ref sig .tc := ⟨.hbm, 190, rfl⟩
abbrev main_call0_call0_call0_c_26 : Ref sig .tc := ⟨.hbm, 191, rfl⟩
abbrev main_call0_call0_call0_v106 : Ref sig .tc := ⟨.hbm, 192, rfl⟩
abbrev main_call0_call0_call0_v107 : Ref sig .tc := ⟨.hbm, 193, rfl⟩
abbrev main_call0_call0_call0_v108 : Ref sig .tc := ⟨.hbm, 194, rfl⟩
abbrev main_call0_call0_call0_c_27 : Ref sig .tc := ⟨.hbm, 195, rfl⟩
abbrev main_call0_call0_call0_v109 : Ref sig .tc := ⟨.hbm, 196, rfl⟩
abbrev main_call0_call0_call0_v110 : Ref sig .tc := ⟨.hbm, 197, rfl⟩
abbrev main_call0_call0_call0_c_28 : Ref sig .tc := ⟨.hbm, 198, rfl⟩
abbrev main_call0_call0_call0_v111 : Ref sig .tc := ⟨.hbm, 199, rfl⟩
abbrev main_call0_call0_call0_v112 : Ref sig .tc := ⟨.hbm, 200, rfl⟩
abbrev main_call0_call0_call0_v113 : Ref sig .tc := ⟨.hbm, 201, rfl⟩
abbrev main_call0_call0_call0_v114 : Ref sig .tc := ⟨.hbm, 202, rfl⟩
abbrev main_call0_call0_call0_v115 : Ref sig .tc := ⟨.hbm, 203, rfl⟩
abbrev main_call0_call0_call0_c_29 : Ref sig .tc := ⟨.hbm, 204, rfl⟩
abbrev main_call0_call0_call0_v116 : Ref sig .tc := ⟨.hbm, 205, rfl⟩
abbrev main_call0_call0_call0_v117 : Ref sig .tc := ⟨.hbm, 206, rfl⟩
abbrev main_call0_call0_call0_c_30 : Ref sig .tc := ⟨.hbm, 207, rfl⟩
abbrev main_call0_call0_call0_v118 : Ref sig .tc := ⟨.hbm, 208, rfl⟩
abbrev main_call0_call0_call0_v119 : Ref sig .tc := ⟨.hbm, 209, rfl⟩
abbrev main_call0_call0_call0_v120 : Ref sig .tc := ⟨.hbm, 210, rfl⟩
abbrev main_call0_call0_call0_v121 : Ref sig .tc := ⟨.hbm, 211, rfl⟩
abbrev main_call0_call0_call0_v122 : Ref sig .tc := ⟨.hbm, 212, rfl⟩
abbrev main_call0_call0_call0_c_31 : Ref sig .tc := ⟨.hbm, 213, rfl⟩
abbrev main_call0_call0_call0_v123 : Ref sig .tc := ⟨.hbm, 214, rfl⟩
abbrev main_call0_call0_call0_v124 : Ref sig .tc := ⟨.hbm, 215, rfl⟩
abbrev main_call0_call0_call0_c_32 : Ref sig .tc := ⟨.hbm, 216, rfl⟩
abbrev main_call0_call0_call0_v125 : Ref sig .tc := ⟨.hbm, 217, rfl⟩
abbrev main_call0_call0_call0_v126 : Ref sig .tc := ⟨.hbm, 218, rfl⟩
abbrev main_call0_call0_call0_v127 : Ref sig .tc := ⟨.hbm, 219, rfl⟩
abbrev main_call0_call0_call0_v128 : Ref sig .tc := ⟨.hbm, 220, rfl⟩
abbrev main_call0_call0_call0_v129 : Ref sig .tc := ⟨.hbm, 221, rfl⟩
abbrev main_call0_call0_call0_c_33 : Ref sig .tc := ⟨.hbm, 222, rfl⟩
abbrev main_call0_call0_call0_v130 : Ref sig .tc := ⟨.hbm, 223, rfl⟩
abbrev main_call0_call0_call0_v131 : Ref sig .tc := ⟨.hbm, 224, rfl⟩
abbrev main_call0_call0_call0_c_34 : Ref sig .tc := ⟨.hbm, 225, rfl⟩
abbrev main_call0_call0_call0_v132 : Ref sig .tc := ⟨.hbm, 226, rfl⟩
abbrev main_call0_call0_call0_v133 : Ref sig .tc := ⟨.hbm, 227, rfl⟩
abbrev main_call0_call0_call0_v134 : Ref sig .tc := ⟨.hbm, 228, rfl⟩
abbrev main_call0_call0_call0_v135 : Ref sig .tc := ⟨.hbm, 229, rfl⟩
abbrev main_call0_call0_call0_v136 : Ref sig .tc := ⟨.hbm, 230, rfl⟩
abbrev main_call0_call0_call0_v137 : Ref sig .tc := ⟨.hbm, 231, rfl⟩
abbrev main_call0_call0_call0_v138 : Ref sig .tc := ⟨.hbm, 232, rfl⟩
abbrev main_call0_call0_call0_v139 : Ref sig .tc := ⟨.hbm, 233, rfl⟩
abbrev main_call0_call0_call0_c_35 : Ref sig .tc := ⟨.hbm, 234, rfl⟩
abbrev main_call0_call0_call0_v140 : Ref sig .tc := ⟨.hbm, 235, rfl⟩
abbrev main_call0_call0_call0_v141 : Ref sig .tc := ⟨.hbm, 236, rfl⟩
abbrev main_call0_call0_call0_v142 : Ref sig .tc := ⟨.hbm, 237, rfl⟩
abbrev main_call0_call0_call0_c_36 : Ref sig .tc := ⟨.hbm, 238, rfl⟩
abbrev main_call0_call0_call0_v143 : Ref sig .tc := ⟨.hbm, 239, rfl⟩
abbrev main_call0_call0_call0_v144 : Ref sig .tc := ⟨.hbm, 240, rfl⟩
abbrev main_call0_call0_call0_c_37 : Ref sig .tc := ⟨.hbm, 241, rfl⟩
abbrev main_call0_call0_call0_v145 : Ref sig .tc := ⟨.hbm, 242, rfl⟩
abbrev main_call0_call0_call0_v146 : Ref sig .tc := ⟨.hbm, 243, rfl⟩
abbrev main_call0_call0_call0_v147 : Ref sig .tc := ⟨.hbm, 244, rfl⟩
abbrev main_call0_call0_call0_v148 : Ref sig .tc := ⟨.hbm, 245, rfl⟩
abbrev main_call0_call0_call0_v149 : Ref sig .tc := ⟨.hbm, 246, rfl⟩
abbrev main_call0_call0_call0_c_38 : Ref sig .tc := ⟨.hbm, 247, rfl⟩
abbrev main_call0_call0_call0_v150 : Ref sig .tc := ⟨.hbm, 248, rfl⟩
abbrev main_call0_call0_call0_v151 : Ref sig .tc := ⟨.hbm, 249, rfl⟩
abbrev main_call0_call0_call0_c_39 : Ref sig .tc := ⟨.hbm, 250, rfl⟩
abbrev main_call0_call0_call0_v152 : Ref sig .tc := ⟨.hbm, 251, rfl⟩
abbrev main_call0_call0_call0_v153 : Ref sig .tc := ⟨.hbm, 252, rfl⟩
abbrev main_call0_call0_call0_v154 : Ref sig .tc := ⟨.hbm, 253, rfl⟩
abbrev main_call0_call0_call0_v155 : Ref sig .tc := ⟨.hbm, 254, rfl⟩
abbrev main_call0_call0_call0_v156 : Ref sig .tc := ⟨.hbm, 255, rfl⟩
abbrev main_call0_call0_call0_c_40 : Ref sig .tc := ⟨.hbm, 256, rfl⟩
abbrev main_call0_call0_call0_v157 : Ref sig .tc := ⟨.hbm, 257, rfl⟩
abbrev main_call0_call0_call0_v158 : Ref sig .tc := ⟨.hbm, 258, rfl⟩
abbrev main_call0_call0_call0_c_41 : Ref sig .tc := ⟨.hbm, 259, rfl⟩
abbrev main_call0_call0_call0_v159 : Ref sig .tc := ⟨.hbm, 260, rfl⟩
abbrev main_call0_call0_call0_v160 : Ref sig .tc := ⟨.hbm, 261, rfl⟩
abbrev main_call0_call0_call0_v161 : Ref sig .tc := ⟨.hbm, 262, rfl⟩
abbrev main_call0_call0_call0_v162 : Ref sig .tc := ⟨.hbm, 263, rfl⟩
abbrev main_call0_call0_call0_v163 : Ref sig .tc := ⟨.hbm, 264, rfl⟩
abbrev main_call0_call0_call0_c_42 : Ref sig .tc := ⟨.hbm, 265, rfl⟩
abbrev main_call0_call0_call0_v164 : Ref sig .tc := ⟨.hbm, 266, rfl⟩
abbrev main_call0_call0_call0_v165 : Ref sig .tc := ⟨.hbm, 267, rfl⟩
abbrev main_call0_call0_call0_c_43 : Ref sig .tc := ⟨.hbm, 268, rfl⟩
abbrev main_call0_call0_call0_v166 : Ref sig .tc := ⟨.hbm, 269, rfl⟩
abbrev main_call0_call0_call0_v167 : Ref sig .tc := ⟨.hbm, 270, rfl⟩
abbrev main_call0_call0_call0_v168 : Ref sig .tc := ⟨.hbm, 271, rfl⟩
abbrev main_call0_call0_call0_v169 : Ref sig .tc := ⟨.hbm, 272, rfl⟩
abbrev main_call0_call0_call0_v170 : Ref sig .tc := ⟨.hbm, 273, rfl⟩
abbrev main_call0_call0_v18_0 : Ref sig .tc := ⟨.hbm, 274, rfl⟩
abbrev main_call0_call0_call0_v172 : Ref sig .tc := ⟨.hbm, 275, rfl⟩
abbrev main_call0_call0_call0_v173 : Ref sig .tc := ⟨.hbm, 276, rfl⟩
abbrev main_call0_call0_call0_c_44 : Ref sig .tc := ⟨.hbm, 277, rfl⟩
abbrev main_call0_call0_call0_v174 : Ref sig .tc := ⟨.hbm, 278, rfl⟩
abbrev main_call0_call0_v18_1 : Ref sig .tc := ⟨.hbm, 279, rfl⟩
abbrev main_call0_call0_v19 : Ref sig .tc := ⟨.hbm, 280, rfl⟩
abbrev main_call0_call0_c_2 : Ref sig .tc := ⟨.hbm, 281, rfl⟩
abbrev main_call0_call0_v20 : Ref sig .tc := ⟨.hbm, 282, rfl⟩
abbrev main_call0_call0_v21 : Ref sig .tc := ⟨.hbm, 283, rfl⟩
abbrev main_call0_call0_c_3 : Ref sig .tc := ⟨.hbm, 284, rfl⟩
abbrev main_call0_call0_v22 : Ref sig .tc := ⟨.hbm, 285, rfl⟩
abbrev main_call0_call0_v23 : Ref sig .tc := ⟨.hbm, 286, rfl⟩
abbrev main_call0_call0_v24 : Ref sig .tc := ⟨.hbm, 287, rfl⟩
abbrev main_call0_call0_cst : Ref sig .tc := ⟨.hbm, 288, rfl⟩
abbrev main_call0_call0_v25 : Ref sig .tc := ⟨.hbm, 289, rfl⟩
abbrev main_call0_call0_v26 : Ref sig .tc := ⟨.hbm, 290, rfl⟩
abbrev main_call0_call0_v27 : Ref sig .tc := ⟨.hbm, 291, rfl⟩
abbrev main_call0_call0_v28 : Ref sig .tc := ⟨.hbm, 292, rfl⟩
abbrev main_call0_call0_v29 : Ref sig .tc := ⟨.hbm, 293, rfl⟩
abbrev main_call0_call0_v30 : Ref sig .tc := ⟨.hbm, 294, rfl⟩
abbrev main_call0_call0_v31 : Ref sig .tc := ⟨.hbm, 295, rfl⟩
abbrev main_call0_call0_v32 : Ref sig .tc := ⟨.hbm, 296, rfl⟩
abbrev main_call0_v0 : Ref sig .tc := ⟨.hbm, 297, rfl⟩
abbrev main_call0_v1 : Ref sig .tc := ⟨.hbm, 298, rfl⟩
abbrev main_call0_v2 : Ref sig .tc := ⟨.hbm, 299, rfl⟩
abbrev main_call0_v3 : Ref sig .tc := ⟨.hbm, 300, rfl⟩
abbrev main_v25 : Ref sig .tc := ⟨.hbm, 301, rfl⟩
abbrev main_v26 : Ref sig .tc := ⟨.hbm, 302, rfl⟩
abbrev main_call1_v0 : Ref sig .tc := ⟨.hbm, 303, rfl⟩
abbrev main_call1_cst : Ref sig .tc := ⟨.hbm, 304, rfl⟩
abbrev main_call1_c : Ref sig .tc := ⟨.hbm, 305, rfl⟩
abbrev main_call1_v1_0 : Ref sig .tc := ⟨.hbm, 306, rfl⟩
abbrev main_v27 : Ref sig .tc := ⟨.hbm, 307, rfl⟩
abbrev main_v28 : Ref sig .tc := ⟨.hbm, 308, rfl⟩

abbrev nD : Nat := 1
abbrev τ : Topo := Topo.v7x

variable {F : FTy → Type} [FloatOps F]
-- ==== Proof.Access.lean ====
/-
  Whole loads and whole stores of a buffer a core owns, stated over the memref and its contents: the two rules the
  kernel's body is run by, whichever staging buffer a memref is on.
-/
module

public import Idealize.ShloMosaic.Lib.Pipeline.Kit
public import Idealize.ShloMosaic.Lib.Pipeline.Frame
public import Idealize.ShloMosaic.Lib.Tactic

@[expose] public section

noncomputable section

namespace Cert.Access

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} (𝒱 : Variants)
variable {α : Type} {Q : α → sProp (MT nD τ sig Ix Val Name U Lvl)}

/-- All of a whole memref is every element of its buffer. -/
theorem whole_set {κ : Kind} {sp : Space} {s : Shape} {e : EltTy} {M : Memref sig κ sp s e} (hM : M.IsWhole) :
    M.view.set = Finset.univ := by
  obtain ⟨b, rfl, rfl, rfl, h⟩ := hM
  cases h
  rw [Memref.view_whole, View.set_whole]

/-- A load at offsets zero and of the memref's own sizes reads what the memref holds. -/
theorem whole_readAt {κ : Kind} {sp : Space} {s : Shape} {e : EltTy} {M : Memref sig κ sp s e} (hM : M.IsWhole)
    {off : Fin s.rank → Nat} (hoff : off = fun _ => 0) (inb : ∀ a, off a + s.size a ≤ s.size a) (f : M.view.ty.Contents Val) :
    M.view.readAt Val (Rect.unit (s := s) off s.size inb).toLoadRect f = M.view.read Val f := by
  obtain ⟨b, rfl, rfl, rfl, h⟩ := hM
  cases h
  subst hoff
  exact (Memref.readAt_unit_zero Val b rfl inb f).trans (by simp only [Memref.view_whole, View.read_whole])

/-- An unmasked store at offsets zero and of the memref's own sizes leaves the memref holding what was stored. -/
theorem whole_write {κ : Kind} {sp : Space} {s : Shape} {e : EltTy} {M : Memref sig κ sp s e} (hM : M.IsWhole)
    {off : Fin s.rank → Nat} (hoff : off = fun _ => 0) (inb : ∀ a, off a + s.size a ≤ s.size a) (f : M.view.ty.Contents Val)
    (w : s.Idx → Val e) :
    M.view.read Val ((M.access (Rect.unit (s := s) off s.size inb)).write Val f w Finset.univ) = w := by
  obtain ⟨b, rfl, rfl, rfl, h⟩ := hM
  cases h
  subst hoff
  exact (congrArg (fun g => View.read Val (Memref.whole b).view g) (Memref.write_access_unit_zero_univ Val b rfl inb f w)).trans
    (View.read_whole b w)

/-- A load of all of a whole memref owned at `X` goes on at `X`, the memref still owned. -/
theorem wp_load_owned (c : Thread nD τ) (bd : Option 𝒱.V) (E : Set Name) {cs : CoreSpace} {s : Shape} {e : EltTy}
    {M : Memref sig c.2.kind cs s e} (hM : M.IsWhole) {q : PosShare TreeShare} (X : s.Idx → Val e)
    {off : Fin s.rank → Nat} (hoff : off = fun _ => 0) {inb : ∀ a, off a + s.size a ≤ s.size a}
    {hl : M.view.LoadsAt (Rect.unit (s := s) off s.size inb).toLoadRect}
    {k : (s.Idx → Val e) → Prog (TpuEff nD τ sig Val Λ c.2) α} :
    (owns c M q X : sProp (MT nD τ sig Ix Val Name U Lvl))
      ⊢ iprop((owns c M q X -∗ wp frame (wpE defs 𝒱 c bd) E (k X) Q)
        -∗ wp frame (wpE defs 𝒱 c bd) E (.op (.load M (Rect.unit (s := s) off s.size inb).toLoadRect hl) k) Q) := by
  iintro H Hk
  unfold owns
  icases H with ⟨%f, %hf, H⟩
  iapply (wp_load (defs := defs) 𝒱 c bd E (m := M) (hl := hl) (k := k) (q := q) (f := f)
    (S := M.view.set) (by rw [whole_set hM]; exact Finset.subset_univ _)) $$ H
  iintro H
  rw [whole_readAt hM hoff inb f, hf]
  iapply Hk
  iexists f
  isplitr
  · ipureintro; exact hf
  iexact H

/-- An unmasked store over all of a whole memref leaves it owned at what was stored. -/
theorem wp_store_owned (c : Thread nD τ) (bd : Option 𝒱.V) (E : Set Name) {cs : CoreSpace} {s : Shape} {e : EltTy}
    {M : Memref sig c.2.kind cs s e} (hM : M.IsWhole) (X : s.Idx → Val e) (w : s.Idx → Val e)
    {off : Fin s.rank → Nat} (hoff : off = fun _ => 0) {inb : ∀ a, off a + s.size a ≤ s.size a}
    {hx : (M.access (Rect.unit (s := s) off s.size inb)).Stores Finset.univ}
    {hm : Finset.univ = Finset.univ ∨ ∀ a, (Rect.unit (s := s) off s.size inb).stride a = 1}
    {k : PUnit → Prog (TpuEff nD τ sig Val Λ c.2) α} :
    (owns c M fullShare X : sProp (MT nD τ sig Ix Val Name U Lvl))
      ⊢ iprop((owns c M fullShare w -∗ wp frame (wpE defs 𝒱 c bd) E (k ⟨⟩) Q)
        -∗ wp frame (wpE defs 𝒱 c bd) E (.op (.store M (Rect.unit (s := s) off s.size inb) w Finset.univ hx hm) k) Q) := by
  iintro H Hk
  unfold owns
  icases H with ⟨%f, %hf, H⟩
  iapply (wp_store (defs := defs) 𝒱 c bd E (m := M) (hx := hx) (hm := hm) (k := k) (f := f)
    (S := M.view.set) (by rw [whole_set hM]; exact Finset.subset_univ _)) $$ H
  iintro H
  iapply Hk
  iexists _
  isplitr
  · ipureintro; exact whole_write hM hoff inb f w
  iexact H

end Cert.Access

end
-- ==== Proof.Body.lean ====
/-
  What one grid step of the kernel does to the buffers it is given, at any reading of the floats: the running best value
  and its index become `newB` and `newI` of the blocks and of what they were, and the last step copies the index out.
-/
module

public import proofs.«01_k».proof.Proof.Access
public import proofs.«01_k».proof.Proof.Gen.KernelIdeal.Skeleton
public import proofs.«01_k».proof.Proof.Gen.KernelIdeal.Launch

@[expose] public section

set_option maxRecDepth 16384

noncomputable section

namespace Cert.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel declares no variants. -/
abbrev 𝒱₀ : Variants := Variants.none

/-- The guard of the first step's stores: the grid coordinate is zero. -/
def isFirst (i : grid0.Coords) : Prop :=
  Scalar.cmpi .ne (Scalar.extui (Scalar.cmpi .eq (BitVec.ofNat 32 (i 0).val) 0#32) : BitVec 32) 0#32 = 1#1

/-- The guard of the later steps' stores: the grid coordinate is positive. -/
def isLater (i : grid0.Coords) : Prop :=
  Scalar.cmpi .ne (Scalar.extui (Scalar.cmpi .sgt (BitVec.ofNat 32 (i 0).val) 0#32) : BitVec 32) 0#32 = 1#1

/-- The coordinate's two guards, decided over the grid: one of them holds, and which one is read off the coordinate. -/
theorem guards : ∀ i : Fin 49,
    ((Scalar.cmpi .ne (Scalar.extui (Scalar.cmpi .eq (BitVec.ofNat 32 i.val) 0#32) : BitVec 32) 0#32 = 1#1) ↔ i.val = 0)
    ∧ ((Scalar.cmpi .ne (Scalar.extui (Scalar.cmpi .sgt (BitVec.ofNat 32 i.val) 0#32) : BitVec 32) 0#32 = 1#1) ↔ i.val ≠ 0) := by
  decide

theorem isFirst_iff (i : grid0.Coords) : isFirst i ↔ (i 0).val = 0 := (guards (i 0)).1
theorem isLater_iff (i : grid0.Coords) : isLater i ↔ (i 0).val ≠ 0 := (guards (i 0)).2

/-- The running best value after a step: the block's best at the first, the greater of the two later. -/
def newB (i : grid0.Coords) (X : S128x1024.Idx → Elt F .f32) (W : S1024x2048.Idx → Elt F .f32)
    (b : S2048x1.Idx → Elt F .f32) (g : S2048x128.Idx → Elt F .f32) (B : S1x128.Idx → Elt F .f32) : S1x128.Idx → Elt F .f32 :=
  if (i 0).val = 0 then k0_pay5 i W X b g else k0_pay8 i W X b g B B

/-- The running best index after a step, beside `newB`. -/
def newI (i : grid0.Coords) (X : S128x1024.Idx → Elt F .f32) (W : S1024x2048.Idx → Elt F .f32)
    (b : S2048x1.Idx → Elt F .f32) (g : S2048x128.Idx → Elt F .f32) (B : S1x128.Idx → Elt F .f32)
    (I : S1x128.Idx → Elt F .i32) : S1x128.Idx → Elt F .i32 :=
  if (i 0).val = 0 then k0_pay6 i W X b g else k0_pay9 i W X b g B I

/-- The offsets of every access are zero. -/
theorem off_zero : (![0, 0] : Fin 2 → Nat) = fun _ => 0 := funext fun a => by fin_cases a <;> rfl

/-- The end of a step: the running index is copied to the output buffer when the coordinate is the last one. -/
theorem sound_last (c : Dev nD) (E : Set ℕ) (i : grid0.Coords)
    (arg5 : Memref sig .tc .vmem S1x128 .i32) (harg5 : arg5.IsWhole) (arg7 : Memref sig .tc .vmem S1x128 .i32) (harg7 : arg7.IsWhole)
    (O I : S1x128.Idx → Elt F .i32) (K : PUnit → sProp 𝕄) :
    iprop((owns (c : Thread nD τ) arg5 fullShare O ∗ owns (c : Thread nD τ) arg7 fullShare I)
          ∗ (iprop(owns (c : Thread nD τ) arg5 fullShare (if k0_cond3 i = 1#1 then I else O) ∗ owns (c : Thread nD τ) arg7 fullShare I) -∗ K ⟨⟩))
      ⊢ wp frame (wpE (defs₀ (F := F)) 𝒱₀ c none) E
          (do
            (if k0_h3 : k0_cond3 i = 1#1 then
              Prog.op (.load arg7 (Rect.unit (s := S1x128) ![0, 0] S1x128.size inb_S1x128_S1x128_0_0).toLoadRect (View.loadsAt_vmem h_S1x128)) fun v35 =>
              Prog.op (.load arg5 (Rect.unit (s := S1x128) ![0, 0] S1x128.size inb_S1x128_S1x128_0_0).toLoadRect (View.loadsAt_vmem h_S1x128)) fun _ =>
              Prog.op (.store arg5 (Rect.unit (s := S1x128) ![0, 0] S1x128.size inb_S1x128_S1x128_0_0) v35 Finset.univ (View.stores_vmem_bits_univ h_S1x128 rfl) (.inl rfl))
                fun _ => Pure.pure ⟨⟩
            else Pure.pure ⟨⟩ : Prog (TpuEff nD τ sig (Elt F) Λ₀ .tc) PUnit)
            Pure.pure ⟨⟩) K := by
  iintro ⟨⟨H5, H7⟩, Hk⟩
  by_cases h3 : k0_cond3 i = 1#1
  · simp only [h3, dif_pos, if_true, Prog.bind_op]
    iapply (Access.wp_load_owned 𝒱₀ (c : Thread nD τ) none E harg7 I off_zero) $$ H7; iintro H7
    iapply (Access.wp_load_owned 𝒱₀ (c : Thread nD τ) none E harg5 O off_zero) $$ H5; iintro H5
    iapply (Access.wp_store_owned 𝒱₀ (c : Thread nD τ) none E harg5 O I off_zero) $$ H5; iintro H5
    iapply (le_wp_ret _ _ _ _ _)
    iapply Hk
    isplitl [H5]; · iexact H5
    iexact H7
  · simp only [h3, dif_neg, if_false, not_false_eq_true]
    iapply (le_wp_ret _ _ _ _ _)
    iapply Hk
    isplitl [H5]; · iexact H5
    iexact H7

set_option maxHeartbeats 4000000 in
/-- One step of the kernel: the four input blocks are left as they were, the two running buffers become `newB` and `newI`,
    and the output buffer takes the new index at the last step and keeps what it held at the others. -/
theorem sound_body (c : Dev nD) (E : Set ℕ) (i : grid0.Coords)
    (arg1 : Memref sig .tc .vmem S128x1024 .f32) (harg1 : arg1.IsWhole) (arg2 : Memref sig .tc .vmem S1024x2048 .f32) (harg2 : arg2.IsWhole)
    (arg3 : Memref sig .tc .vmem S2048x1 .f32) (harg3 : arg3.IsWhole) (arg4 : Memref sig .tc .vmem S2048x128 .f32) (harg4 : arg4.IsWhole)
    (arg5 : Memref sig .tc .vmem S1x128 .i32) (harg5 : arg5.IsWhole) (arg6 : Memref sig .tc .vmem S1x128 .f32) (harg6 : arg6.IsWhole)
    (arg7 : Memref sig .tc .vmem S1x128 .i32) (harg7 : arg7.IsWhole)
    (X : S128x1024.Idx → Elt F .f32) (W : S1024x2048.Idx → Elt F .f32) (b : S2048x1.Idx → Elt F .f32) (g : S2048x128.Idx → Elt F .f32)
    (O : S1x128.Idx → Elt F .i32) (B : S1x128.Idx → Elt F .f32) (I : S1x128.Idx → Elt F .i32) (K : PUnit → sProp 𝕄) :
    iprop((owns (c : Thread nD τ) arg1 fullShare X ∗ owns (c : Thread nD τ) arg2 fullShare W ∗ owns (c : Thread nD τ) arg3 fullShare b
            ∗ owns (c : Thread nD τ) arg4 fullShare g ∗ owns (c : Thread nD τ) arg5 fullShare O
            ∗ owns (c : Thread nD τ) arg6 fullShare B ∗ owns (c : Thread nD τ) arg7 fullShare I)
          ∗ (iprop(owns (c : Thread nD τ) arg1 fullShare X ∗ owns (c : Thread nD τ) arg2 fullShare W ∗ owns (c : Thread nD τ) arg3 fullShare b
            ∗ owns (c : Thread nD τ) arg4 fullShare g
            ∗ owns (c : Thread nD τ) arg5 fullShare (if k0_cond3 i = 1#1 then newI i X W b g B I else O)
            ∗ owns (c : Thread nD τ) arg6 fullShare (newB i X W b g B) ∗ owns (c : Thread nD τ) arg7 fullShare (newI i X W b g B I)) -∗ K ⟨⟩))
      ⊢ wp frame (wpE (defs₀ (F := F)) 𝒱₀ c none) E
          (cc0__fused_sample_kernel_t i arg1 harg1 arg2 harg2 arg3 harg3 arg4 harg4 arg5 harg5 arg6 harg6 arg7 harg7) K := by
  rw [cc0__fused_sample_kernel_t_eq_skeleton]
  unfold cc0__fused_sample_kernel_t_skel
  rw [k0_part1_eq_skeleton]
  unfold k0_part1_skel
  have h1 := isFirst_iff i
  have h2 := isLater_iff i
  unfold isFirst at h1
  unfold isLater at h2
  unfold newB newI
  iintro ⟨⟨H1, H2, H3, H4, H5, H6, H7⟩, Hk⟩
  simp only [Prog.lift, Prog.bind_op, Prog.bind_ret]
  iapply (Access.wp_load_owned 𝒱₀ (c : Thread nD τ) none E harg2 W off_zero) $$ H2; iintro H2
  iapply (Access.wp_load_owned 𝒱₀ (c : Thread nD τ) none E harg1 X off_zero) $$ H1; iintro H1
  iapply (Access.wp_load_owned 𝒱₀ (c : Thread nD τ) none E harg3 b off_zero) $$ H3; iintro H3
  iapply (Access.wp_load_owned 𝒱₀ (c : Thread nD τ) none E harg4 g off_zero) $$ H4; iintro H4
  by_cases h0 : (i 0).val = 0
  · simp only [if_pos h0]
    simp only [h1.mpr h0, mt h2.mp (not_not.mpr h0), dif_pos, dif_neg, not_false_eq_true, Prog.bind_op]
    iapply (Access.wp_load_owned 𝒱₀ (c : Thread nD τ) none E harg6 B off_zero) $$ H6; iintro H6
    iapply (Access.wp_store_owned 𝒱₀ (c : Thread nD τ) none E harg6 B (k0_pay5 i W X b g) off_zero) $$ H6; iintro H6
    iapply (Access.wp_load_owned 𝒱₀ (c : Thread nD τ) none E harg7 I off_zero) $$ H7; iintro H7
    iapply (Access.wp_store_owned 𝒱₀ (c : Thread nD τ) none E harg7 I (k0_pay6 i W X b g) off_zero) $$ H7; iintro H7
    iapply (sound_last c E i arg5 harg5 arg7 harg7 O (k0_pay6 i W X b g) K)
    isplitl [H5 H7]
    · isplitl [H5]
      · iexact H5
      iexact H7
    iintro ⟨H5, H7⟩
    iapply Hk
    isplitl [H1]; · iexact H1
    isplitl [H2]; · iexact H2
    isplitl [H3]; · iexact H3
    isplitl [H4]; · iexact H4
    isplitl [H5]; · iexact H5
    isplitl [H6]; · iexact H6
    iexact H7
  · simp only [if_neg h0]
    simp only [mt h1.mp h0, h2.mpr h0, dif_pos, dif_neg, not_false_eq_true, Prog.bind_op]
    iapply (Access.wp_load_owned 𝒱₀ (c : Thread nD τ) none E harg6 B off_zero) $$ H6; iintro H6
    iapply (Access.wp_load_owned 𝒱₀ (c : Thread nD τ) none E harg6 B off_zero) $$ H6; iintro H6
    iapply (Access.wp_load_owned 𝒱₀ (c : Thread nD τ) none E harg6 B off_zero) $$ H6; iintro H6
    iapply (Access.wp_store_owned 𝒱₀ (c : Thread nD τ) none E harg6 B (k0_pay8 i W X b g B B) off_zero) $$ H6; iintro H6
    iapply (Access.wp_load_owned 𝒱₀ (c : Thread nD τ) none E harg7 I off_zero) $$ H7; iintro H7
    iapply (Access.wp_load_owned 𝒱₀ (c : Thread nD τ) none E harg7 I off_zero) $$ H7; iintro H7
    iapply (Access.wp_store_owned 𝒱₀ (c : Thread nD τ) none E harg7 I (k0_pay9 i W X b g B I) off_zero) $$ H7; iintro H7
    iapply (sound_last c E i arg5 harg5 arg7 harg7 O (k0_pay9 i W X b g B I) K)
    isplitl [H5 H7]
    · isplitl [H5]
      · iexact H5
      iexact H7
    iintro ⟨H5, H7⟩
    iapply Hk
    isplitl [H1]; · iexact H1
    isplitl [H2]; · iexact H2
    isplitl [H3]; · iexact H3
    isplitl [H4]; · iexact H4
    isplitl [H5]; · iexact H5
    isplitl [H6]; · iexact H6
    iexact H7

end Cert.Body

end
-- ==== Proof.FrameRun.lean ====
/-
  The kernel's frame, at any reading of the floats: @main terminates, leaves its three argument arrays as they were and every
  counter at zero. Nothing is said here of the result: what the rows past the end of the arrays hold reaches it in general.
-/
module

public import proofs.«01_k».proof.Proof.Body
public import proofs.«01_k».proof.Proof.Gen.KernelIdeal.Frame

@[expose] public section

set_option maxRecDepth 16384

noncomputable section

namespace Cert.FrameRun

open Cert.KernelIdeal Cert.KernelIdeal.Gen Cert.Body
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A block of weights whose columns past the array's end are some word. -/
def wblk (c : Dev nD) (t : Fin cfg0.N) (d : S1024x2048.Idx → Elt F .f32) : S1024x2048.Idx → Elt F .f32 :=
  win0_1.fill (grid0.coords t) d (iblk m c 1 t)
/-- A block of the bias column, likewise. -/
def bblk (c : Dev nD) (t : Fin cfg0.N) (d : S2048x1.Idx → Elt F .f32) : S2048x1.Idx → Elt F .f32 :=
  win0_2.fill (grid0.coords t) d (iblk m c 2 t)
/-- A block of the transposed noise, likewise. -/
def gblk (c : Dev nD) (t : Fin cfg0.N) (d : S2048x128.Idx → Elt F .f32) : S2048x128.Idx → Elt F .f32 :=
  win0_3.fill (grid0.coords t) d (iblk m c 3 t)

/-- The zero word, filling what no array reaches. -/
def zf {s : Shape} : s.Idx → Elt F .f32 := fun _ => Scalar.ofBits .f32 0#32
def zi {s : Shape} : s.Idx → Elt F .i32 := fun _ => (0#32 : BitVec 32)

/-- The proof data of the frame: inputs as the region finds them, the running buffers at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t zf
    | ⟨2, _⟩ => bblk m c t zf
    | ⟨3, _⟩ => gblk m c t zf
    | ⟨4, _⟩ => zi
  Φ _ := Pipeline.ΦA spec0 c
  q _ := fullShare
  owed _ := 0

/-- The output window is the one the frame says nothing of. -/
def fgt : Fin cfg0.W → Bool := fun w => w.val == 4

theorem before_0 (c : Dev nD) (t : Fin cfg0.N) (d) : (dats m 0 c).before (0 : Fin 5) t d = iblk m c 0 t :=
  before0_0_of m (dats m 0 c) rfl (fun _ => rfl) t d
theorem before_1 (c : Dev nD) (t : Fin cfg0.N) (d) : (dats m 0 c).before (1 : Fin 5) t d = wblk m c t d := by
  unfold Dat.before; rw [if_pos (fetch0_1 t)]; rfl
theorem before_2 (c : Dev nD) (t : Fin cfg0.N) (d) : (dats m 0 c).before (2 : Fin 5) t d = bblk m c t d := by
  unfold Dat.before; rw [if_pos (fetch0_2 t)]; rfl
theorem before_3 (c : Dev nD) (t : Fin cfg0.N) (d) : (dats m 0 c).before (3 : Fin 5) t d = gblk m c t d := by
  unfold Dat.before; rw [if_pos (fetch0_3 t)]; rfl

/-- One step of the kernel as the pipeline calls it: on the point's staging buffers and the two running buffers. -/
theorem sound_point (c : Dev nD) (t : Fin cfg0.N)
    (X : S128x1024.Idx → Elt F .f32) (W : S1024x2048.Idx → Elt F .f32) (b : S2048x1.Idx → Elt F .f32) (g : S2048x128.Idx → Elt F .f32)
    (O : S1x128.Idx → Elt F .i32) (B : S1x128.Idx → Elt F .f32) (I : S1x128.Idx → Elt F .i32) (K : PUnit → sProp 𝕄) :
    iprop((owns (c : Thread nD τ) (st0_0 t) fullShare X ∗ owns (c : Thread nD τ) (st0_1 t) fullShare W ∗ owns (c : Thread nD τ) (st0_2 t) fullShare b
            ∗ owns (c : Thread nD τ) (st0_3 t) fullShare g ∗ owns (c : Thread nD τ) (st0_4 t) fullShare O
            ∗ (((c : Thread nD τ).loc cc0_scratch0) ↦{fullShare} B) ∗ (((c : Thread nD τ).loc cc0_scratch1) ↦{fullShare} I))
          ∗ (iprop(owns (c : Thread nD τ) (st0_0 t) fullShare X ∗ owns (c : Thread nD τ) (st0_1 t) fullShare W ∗ owns (c : Thread nD τ) (st0_2 t) fullShare b
            ∗ owns (c : Thread nD τ) (st0_3 t) fullShare g
            ∗ owns (c : Thread nD τ) (st0_4 t) fullShare (if k0_cond3 (grid0.coords t) = 1#1 then newI (grid0.coords t) X W b g B I else O)
            ∗ (((c : Thread nD τ).loc cc0_scratch0) ↦{fullShare} newB (grid0.coords t) X W b g B)
            ∗ (((c : Thread nD τ).loc cc0_scratch1) ↦{fullShare} newI (grid0.coords t) X W b g B I)) -∗ K ⟨⟩))
      ⊢ wp frame (wpE (defs₀ (F := F)) 𝒱₀ c none) Set.univ (defs₀ .tc cfg0.body (cfg0.bodyArgs t (cfg0.slots t))) K := by
  have h := sound_body (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (Memref.whole cc0_scratch0) (Memref.isWhole_whole _) (Memref.whole cc0_scratch1) (Memref.isWhole_whole _) X W b g O B I K
  rw [owns_whole, owns_whole, owns_whole, owns_whole] at h
  exact h

set_option maxHeartbeats 1000000 in
/-- One grid step keeps the frame's invariant: the running buffers go from some contents to some contents. -/
theorem body_obligation (c : Dev nD) : BodyObligationLoose (dats m 0 c) (defs₀ (F := F)) 𝒱₀ () Set.univ fgt := fun t => by
  rw [bigSep_W0, bigSep_W0]
  simp only [show fgt 0 = false from rfl, show fgt 1 = false from rfl, show fgt 2 = false from rfl, show fgt 3 = false from rfl,
    show fgt 4 = true from rfl]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  unfold Pipeline.ΦA
  rw [scopedRest0_eq]
  iintro ⟨⟨⟨⟨%B, HB⟩, ⟨%I, HI⟩⟩, Hp⟩, Ho, ⟨%d0, H0⟩, ⟨%d1, H1⟩, ⟨%d2, H2⟩, ⟨%d3, H3⟩, ⟨%O, H4⟩⟩
  rw [before_0 m c t d0, before_1 m c t d1, before_2 m c t d2, before_3 m c t d3]
  iapply (sound_point (F := F) c t (iblk m c 0 t) (wblk m c t d1) (bblk m c t d2) (gblk m c t d3) O B I _)
  isplitl [HB HI H0 H1 H2 H3 H4]
  · isplitl [H0]; · iexact H0
    isplitl [H1]; · iexact H1
    isplitl [H2]; · iexact H2
    isplitl [H3]; · iexact H3
    isplitl [H4]; · iexact H4
    isplitl [HB]; · iexact HB
    iexact HI
  iintro ⟨H0, H1, H2, H3, H4, HB, HI⟩
  isplitl [HB HI Hp]
  · isplitl [HB HI]
    · isplitl [HB]
      · iexists _; iexact HB
      · iexists _; iexact HI
    iexact Hp
  isplitl [Ho]; · iexact Ho
  have h1 : win0_1.cut (grid0.coords t) (wblk m c t zf) = iblk m c 1 t := win0_1.cut_fill _ _ _
  have h2 : win0_2.cut (grid0.coords t) (bblk m c t zf) = iblk m c 2 t := win0_2.cut_fill _ _ _
  have h3 : win0_3.cut (grid0.coords t) (gblk m c t zf) = iblk m c 3 t := win0_3.cut_fill _ _ _
  isplitl [H0]; · iexact H0
  isplitl [H1]
  · iexists d1
    change _ ⊢ owns (c : Thread nD τ) (st0_1 t) fullShare (win0_1.fill (grid0.coords t) d1 (win0_1.cut (grid0.coords t) (wblk m c t zf)))
    rw [h1]; exact BI.Entails.refl _
  isplitl [H2]
  · iexists d2
    change _ ⊢ owns (c : Thread nD τ) (st0_2 t) fullShare (win0_2.fill (grid0.coords t) d2 (win0_2.cut (grid0.coords t) (bblk m c t zf)))
    rw [h2]; exact BI.Entails.refl _
  isplitl [H3]
  · iexists d3
    change _ ⊢ owns (c : Thread nD τ) (st0_3 t) fullShare (win0_3.fill (grid0.coords t) d3 (win0_3.cut (grid0.coords t) (gblk m c t zf)))
    rw [h3]; exact BI.Entails.refl _
  iexists _; iexact H4

set_option maxHeartbeats 4000000 in
set_option backward.isDefEq.respectTransparency.types false in
/-- The frame: @main terminates from any memory with zero counters, the arguments end as launched, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  Pipeline.θ_run_frame_around_T_forget cfgs (dats m) (0 : Fin 1) launch0 defs₀ 𝒱₀ fgt {main_v11} m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, or_false] at hops
      subst hops
      simp only [hostOps1, List.mem_cons, List.mem_nil_iff, or_false] at hop
      subst hop
      simp only [StableHlo.reshape_writes, Finset.mem_singleton] at hb
      rw [Finset.mem_singleton]
      exact Proc.devRef_injective _ hb)
    (hmain := hmain m 𝒱₀) (hA := fun _ _ => rfl) (hΦ := fun _ _ => rfl)
    (Q' := _)
    (hQ' := fun r h => ⟨fun c => ⟨
      (((dats m 0 c).toRForget_arrAt_iff (fgt := fgt) (w := 0) rfl _ _).mp ((h.1 c).1 0)).trans (((dats m 0 c).arrAt_in 0 rfl _).trans (V_main_arg0 m c)),
      (((dats m 0 c).toRForget_arrAt_iff (fgt := fgt) (w := 1) rfl _ _).mp ((h.1 c).1 1)).trans (((dats m 0 c).arrAt_in 1 rfl _).trans (V_main_arg1 m c)),
      ((h.1 c).2 main_arg2 (by rw [Finset.mem_sdiff]; exact ⟨Pipeline.mem_restRefs_of main_arg2 (by decide) (by decide), by decide⟩)).trans (V_main_arg2 m c)⟩, h.2⟩)

end Cert.FrameRun

end
-- ==== Proof.FrameKernel.lean ====
/-
  The printed kernel's frame. The kernel printed for its own floats and the kernel printed for the idealized program are one
  text, so the frame proved at any reading of the floats, taken at bit patterns, is the printed kernel's.
-/
module

public import proofs.«01_k».proof.Proof.FrameRun
public import proofs.«01_k».proof.Defs
public import proofs.«01_k».proof.Proof.Gen.Kernel

@[expose] public section

set_option maxRecDepth 16384

noncomputable section

namespace Cert.FrameKernel
open Idealize.ShloMosaic Idealize.ShloMosaic.TcCoe

/-- The frame of the idealized kernel's text, read at bit patterns. -/
def framed : Prop := ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

/-- It is the printed kernel's frame: the two texts are one. -/
theorem same : framed = Cert.quiescent_Kernel (hKernel := Cert.Kernel.Gen.facts) := by chain_rfl

/-- The printed kernel terminates, leaves its arguments as they were and its counters at zero. -/
theorem frame_k : Cert.quiescent_Kernel (hKernel := Cert.Kernel.Gen.facts) :=
  same ▸ fun m ρ _ => Cert.FrameRun.frame (F := Bits) m ρ

end Cert.FrameKernel

end
-- ==== Proof.RefOps.lean ====
/-
  The reference's straight line of host operations, as printed: the softmax and its logarithm with the key, the noise
  (the printed generator's stretch), then the sum, the argmax and the broadcast.
-/
module

public import proofs.«01_k».proof.Proof.Gen.ReferenceIdeal
public import Idealize.ShloMosaic.Lib.StableHlo.RunRead
public import Idealize.ShloMosaic.Lib.Pipeline.Regions

@[expose] public section

set_option maxRecDepth 16384

noncomputable section

namespace Cert.RefOps

open Cert.ReferenceIdeal Cert.ReferenceIdeal.Facts₀
open Idealize.ShloMosaic Idealize.ShloMosaic.TcCoe

variable {F : FTy → Type} [FloatOps F] [Facts]

/-- The softmax of the logits, its logarithm after the small shift, and the generator's key. -/
abbrev opsA : List (HloOp τ sig (Elt F)) :=
  [ StableHlo.binary main_arg0 main_arg1 main_v0 ((fun l r => Host.dotGeneral dot_S128x1024_S1024x100000_S128x100000_1_0_0_1_n_n none l r) : (⟨S128x1024, .f32⟩ : BufTy).Contents (Elt F) → (⟨S1024x100000, .f32⟩ : BufTy).Contents (Elt F) → (⟨S128x100000, .f32⟩ : BufTy).Contents (Elt F)),
    StableHlo.unary main_arg2 main_v1 (broadcastInDim S1x100000 ![1] bcast_S100000_S1x100000_1 : (⟨S100000, .f32⟩ : BufTy).Contents (Elt F) → (⟨S1x100000, .f32⟩ : BufTy).Contents (Elt F)),
    StableHlo.unary main_v1 main_v2 (broadcastInDim S128x100000 ![0, 1] bcast_S1x100000_S128x100000_0_1 : (⟨S1x100000, .f32⟩ : BufTy).Contents (Elt F) → (⟨S128x100000, .f32⟩ : BufTy).Contents (Elt F)),
    StableHlo.binary main_v0 main_v2 main_v3 (addf : (⟨S128x100000, .f32⟩ : BufTy).Contents (Elt F) → (⟨S128x100000, .f32⟩ : BufTy).Contents (Elt F) → (⟨S128x100000, .f32⟩ : BufTy).Contents (Elt F)),
    StableHlo.nullary main_cst (constant S_ .f32 0xFF800000#32),
    StableHlo.binary main_v3 main_cst main_v4 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    StableHlo.nullary main_cst_0 (constant S_ .f32 0xFF800000#32),
    StableHlo.unary main_cst_0 main_v5 (broadcastInDim S128 ![] bcast_S_S128 : (⟨S_, .f32⟩ : BufTy).Contents (Elt F) → (⟨S128, .f32⟩ : BufTy).Contents (Elt F)),
    StableHlo.binary main_v5 main_v4 main_v6 (maximumf : (⟨S128, .f32⟩ : BufTy).Contents (Elt F) → (⟨S128, .f32⟩ : BufTy).Contents (Elt F) → (⟨S128, .f32⟩ : BufTy).Contents (Elt F)),
    StableHlo.unary main_v6 main_v7 (broadcastInDim S128x1 ![0] bcast_S128_S128x1_0 : (⟨S128, .f32⟩ : BufTy).Contents (Elt F) → (⟨S128x1, .f32⟩ : BufTy).Contents (Elt F)),
    StableHlo.unary main_v7 main_v8 (broadcastInDim S128x100000 ![0, 1] bcast_S128x1_S128x100000_0_1 : (⟨S128x1, .f32⟩ : BufTy).Contents (Elt F) → (⟨S128x100000, .f32⟩ : BufTy).Contents (Elt F)),
    StableHlo.binary main_v3 main_v8 main_v9 (subf : (⟨S128x100000, .f32⟩ : BufTy).Contents (Elt F) → (⟨S128x100000, .f32⟩ : BufTy).Contents (Elt F) → (⟨S128x100000, .f32⟩ : BufTy).Contents (Elt F)),
    StableHlo.unary main_v9 main_v10 (Host.exp : (⟨S128x100000, .f32⟩ : BufTy).Contents (Elt F) → (⟨S128x100000, .f32⟩ : BufTy).Contents (Elt F)),
    StableHlo.nullary main_cst_1 (constant S_ .f32 0x00000000#32),
    StableHlo.binary main_v10 main_cst_1 main_v11 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    StableHlo.unary main_v11 main_v12 (broadcastInDim S128x1 ![0] bcast_S128_S128x1_0 : (⟨S128, .f32⟩ : BufTy).Contents (Elt F) → (⟨S128x1, .f32⟩ : BufTy).Contents (Elt F)),
    StableHlo.unary main_v12 main_v13 (broadcastInDim S128x100000 ![0, 1] bcast_S128x1_S128x100000_0_1 : (⟨S128x1, .f32⟩ : BufTy).Contents (Elt F) → (⟨S128x100000, .f32⟩ : BufTy).Contents (Elt F)),
    StableHlo.binary main_v10 main_v13 main_v14 (Host.divf : (⟨S128x100000, .f32⟩ : BufTy).Contents (Elt F) → (⟨S128x100000, .f32⟩ : BufTy).Contents (Elt F) → (⟨S128x100000, .f32⟩ : BufTy).Contents (Elt F)),
    StableHlo.nullary main_c (constantI S_ 32 42#32),
    StableHlo.nullary main_c_2 (constantI S_ 32 32#32),
    StableHlo.binary main_c main_c_2 main_v15 (Host.shrui : (⟨S_, .i32⟩ : BufTy).Contents (Elt F) → (⟨S_, .i32⟩ : BufTy).Contents (Elt F) → (⟨S_, .i32⟩ : BufTy).Contents (Elt F)),
    StableHlo.unary main_v15 main_v16 (id : (⟨S_, .i32⟩ : BufTy).Contents (Elt F) → (⟨S_, .i32⟩ : BufTy).Contents (Elt F)),
    StableHlo.unary main_v16 main_v17 (broadcastInDim S1 ![] bcast_S_S1 : (⟨S_, .i32⟩ : BufTy).Contents (Elt F) → (⟨S1, .i32⟩ : BufTy).Contents (Elt F)),
    StableHlo.nullary main_c_3 (constantI S_ 32 4294967295#32),
    StableHlo.binary main_c main_c_3 main_v18 (andi : (⟨S_, .i32⟩ : BufTy).Contents (Elt F) → (⟨S_, .i32⟩ : BufTy).Contents (Elt F) → (⟨S_, .i32⟩ : BufTy).Contents (Elt F)),
    StableHlo.unary main_v18 main_v19 (id : (⟨S_, .i32⟩ : BufTy).Contents (Elt F) → (⟨S_, .i32⟩ : BufTy).Contents (Elt F)),
    StableHlo.unary main_v19 main_v20 (broadcastInDim S1 ![] bcast_S_S1 : (⟨S_, .i32⟩ : BufTy).Contents (Elt F) → (⟨S1, .i32⟩ : BufTy).Contents (Elt F)),
    StableHlo.binary main_v17 main_v20 main_v21 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst_4 (constant S_ .f32 0x1E3CE508#32),
    StableHlo.unary main_cst_4 main_v22 (broadcastInDim S128x100000 ![] bcast_S_S128x100000 : (⟨S_, .f32⟩ : BufTy).Contents (Elt F) → (⟨S128x100000, .f32⟩ : BufTy).Contents (Elt F)),
    StableHlo.binary main_v14 main_v22 main_v23 (addf : (⟨S128x100000, .f32⟩ : BufTy).Contents (Elt F) → (⟨S128x100000, .f32⟩ : BufTy).Contents (Elt F) → (⟨S128x100000, .f32⟩ : BufTy).Contents (Elt F)),
    StableHlo.unary main_v23 main_v24 (Host.log : (⟨S128x100000, .f32⟩ : BufTy).Contents (Elt F) → (⟨S128x100000, .f32⟩ : BufTy).Contents (Elt F)) ]

set_option maxHeartbeats 40000000 in
/-- The generator's stretch: from the key in `main_v21` to the noise in `main_v25`. -/
abbrev opsB : List (HloOp τ sig (Elt F)) :=
  ( StableHlo.TRef.nullary (.of main_call0_cst : StableHlo.TRef sig ⟨S_, .f32⟩) (constant S_ .f32 0x3F800000#32)
  :: StableHlo.TRef.nullary (.of main_call0_cst_0 : StableHlo.TRef sig ⟨S_, .f32⟩) (constant S_ .f32 0x00800000#32)
  :: StableHlo.TRef.unary (.of main_call0_cst : StableHlo.TRef sig ⟨S_, .f32⟩) (.of main_call0_call0_v0 : StableHlo.TRef sig ⟨S_, .f32⟩) id
  :: StableHlo.TRef.unary (.of main_call0_cst_0 : StableHlo.TRef sig ⟨S_, .f32⟩) (.of main_call0_call0_v1 : StableHlo.TRef sig ⟨S1x1, .f32⟩) (broadcastInDim S1x1 ![] bcast_S_S1x1)
  :: StableHlo.TRef.unary (.of main_call0_call0_v0 : StableHlo.TRef sig ⟨S_, .f32⟩) (.of main_call0_call0_v2 : StableHlo.TRef sig ⟨S1x1, .f32⟩) (broadcastInDim S1x1 ![] bcast_S_S1x1)
  :: StableHlo.TRef.unary (.of main_v21 : StableHlo.TRef sig ⟨S2, .i32⟩) (.of main_call0_call0_v3 : StableHlo.TRef sig ⟨S1, .i32⟩) (extractStridedSlice S1 ![0] · slices_S2_S1_0)
  :: StableHlo.TRef.reshape (.of main_call0_call0_v3 : StableHlo.TRef sig ⟨S1, .i32⟩) (.of main_call0_call0_v4 : StableHlo.TRef sig ⟨S_, .i32⟩) (rfl : (.i32 : EltTy) = .i32) shapeCasts_S1_S_
  :: StableHlo.TRef.unary (.of main_v21 : StableHlo.TRef sig ⟨S2, .i32⟩) (.of main_call0_call0_v5 : StableHlo.TRef sig ⟨S1, .i32⟩) (extractStridedSlice S1 ![1] · slices_S2_S1_1)
  :: StableHlo.TRef.reshape (.of main_call0_call0_v5 : StableHlo.TRef sig ⟨S1, .i32⟩) (.of main_call0_call0_v6 : StableHlo.TRef sig ⟨S_, .i32⟩) (rfl : (.i32 : EltTy) = .i32) shapeCasts_S1_S_
  :: StableHlo.TRef.nullary (.of main_call0_call0_v7 : StableHlo.TRef sig ⟨S128x100000, .i64⟩) (iotaInDim S128x100000 64 0)
  :: StableHlo.TRef.nullary (.of main_call0_call0_v8 : StableHlo.TRef sig ⟨S128x100000, .i64⟩) (iotaInDim S128x100000 64 1)
  :: StableHlo.TRef.nullary (.of main_call0_call0_c : StableHlo.TRef sig ⟨S_, .i64⟩) (constantI S_ 64 100000#64)
  :: StableHlo.TRef.unary (.of main_call0_call0_c : StableHlo.TRef sig ⟨S_, .i64⟩) (.of main_call0_call0_v9 : StableHlo.TRef sig ⟨S128x100000, .i64⟩) (broadcastInDim S128x100000 ![] bcast_S_S128x100000)
  :: StableHlo.TRef.binary (.of main_call0_call0_v9 : StableHlo.TRef sig ⟨S128x100000, .i64⟩) (.of main_call0_call0_v7 : StableHlo.TRef sig ⟨S128x100000, .i64⟩) (.of main_call0_call0_v10 : StableHlo.TRef sig ⟨S128x100000, .i64⟩) muli
  :: StableHlo.TRef.nullary (.of main_call0_call0_c_0 : StableHlo.TRef sig ⟨S_, .i64⟩) (constantI S_ 64 1#64)
  :: StableHlo.TRef.unary (.of main_call0_call0_c_0 : StableHlo.TRef sig ⟨S_, .i64⟩) (.of main_call0_call0_v11 : StableHlo.TRef sig ⟨S128x100000, .i64⟩) (broadcastInDim S128x100000 ![] bcast_S_S128x100000)
  :: StableHlo.TRef.binary (.of main_call0_call0_v11 : StableHlo.TRef sig ⟨S128x100000, .i64⟩) (.of main_call0_call0_v8 : StableHlo.TRef sig ⟨S128x100000, .i64⟩) (.of main_call0_call0_v12 : StableHlo.TRef sig ⟨S128x100000, .i64⟩) muli
  :: StableHlo.TRef.binary (.of main_call0_call0_v10 : StableHlo.TRef sig ⟨S128x100000, .i64⟩) (.of main_call0_call0_v12 : StableHlo.TRef sig ⟨S128x100000, .i64⟩) (.of main_call0_call0_v13 : StableHlo.TRef sig ⟨S128x100000, .i64⟩) addi
  :: StableHlo.TRef.nullary (.of main_call0_call0_c_1 : StableHlo.TRef sig ⟨S_, .i64⟩) (constantI S_ 64 32#64)
  :: StableHlo.TRef.unary (.of main_call0_call0_c_1 : StableHlo.TRef sig ⟨S_, .i64⟩) (.of main_call0_call0_v14 : StableHlo.TRef sig ⟨S128x100000, .i64⟩) (broadcastInDim S128x100000 ![] bcast_S_S128x100000)
  :: StableHlo.TRef.binary (.of main_call0_call0_v13 : StableHlo.TRef sig ⟨S128x100000, .i64⟩) (.of main_call0_call0_v14 : StableHlo.TRef sig ⟨S128x100000, .i64⟩) (.of main_call0_call0_v15 : StableHlo.TRef sig ⟨S128x100000, .i64⟩) Host.shrui
  :: StableHlo.TRef.unary (.of main_call0_call0_v13 : StableHlo.TRef sig ⟨S128x100000, .i64⟩) (.of main_call0_call0_v16 : StableHlo.TRef sig ⟨S128x100000, .i32⟩) (trunci 32 · natLt_32_64)
  :: StableHlo.TRef.unary (.of main_call0_call0_v15 : StableHlo.TRef sig ⟨S128x100000, .i64⟩) (.of main_call0_call0_v17 : StableHlo.TRef sig ⟨S128x100000, .i32⟩) (trunci 32 · natLt_32_64)
  :: StableHlo.TRef.binary (.of main_call0_call0_v4 : StableHlo.TRef sig ⟨S_, .i32⟩) (.of main_call0_call0_v6 : StableHlo.TRef sig ⟨S_, .i32⟩) (.of main_call0_call0_call0_v0 : StableHlo.TRef sig ⟨S_, .i32⟩) xori
  :: StableHlo.TRef.nullary (.of main_call0_call0_call0_c : StableHlo.TRef sig ⟨S_, .i32⟩) (constantI S_ 32 466688986#32)
  :: StableHlo.TRef.binary (.of main_call0_call0_call0_v0 : StableHlo.TRef sig ⟨S_, .i32⟩) (.of main_call0_call0_call0_c : StableHlo.TRef sig ⟨S_, .i32⟩) (.of main_call0_call0_call0_v1 : StableHlo.TRef sig ⟨S_, .i32⟩) xori
  :: StableHlo.TRef.unary (.of main_call0_call0_v4 : StableHlo.TRef sig ⟨S_, .i32⟩) (.of main_call0_call0_call0_v2 : StableHlo.TRef sig ⟨S128x100000, .i32⟩) (broadcastInDim S128x100000 ![] bcast_S_S128x100000)
  :: StableHlo.TRef.binary (.of main_call0_call0_v17 : StableHlo.TRef sig ⟨S128x100000, .i32⟩) (.of main_call0_call0_call0_v2 : StableHlo.TRef sig ⟨S128x100000, .i32⟩) (.of main_call0_call0_call0_v3 : StableHlo.TRef sig ⟨S128x100000, .i32⟩) addi
  :: StableHlo.TRef.unary (.of main_call0_call0_v6 : StableHlo.TRef sig ⟨S_, .i32⟩) (.of main_call0_call0_call0_v4 : StableHlo.TRef sig ⟨S128x100000, .i32⟩) (broadcastInDim S128x100000 ![] bcast_S_S128x100000)
  :: StableHlo.TRef.binary (.of main_call0_call0_v16 : StableHlo.TRef sig ⟨S128x100000, .i32⟩) (.of main_call0_call0_call0_v4 : StableHlo.TRef sig ⟨S128x100000, .i32⟩) (.of main_call0_call0_call0_v5 : StableHlo.TRef sig ⟨S128x100000, .i32⟩) addi
  :: StableHlo.TRef.binary (.of main_call0_call0_call0_v3 : StableHlo.TRef sig ⟨S128x100000, .i32⟩) (.of main_call0_call0_call0_v5 : StableHlo.TRef sig ⟨S128x100000, .i32⟩) (.of main_call0_call0_call0_v6 : StableHlo.TRef sig ⟨S128x100000, .i32⟩) addi
  :: StableHlo.TRef.nullary (.of main_call0_call0_call0_c_0 : StableHlo.TRef sig ⟨S_, .i32⟩) (constantI S_ 32 13#32)
  :: StableHlo.TRef.unary (.of main_call0_call0_call0_c_0 : StableHlo.TRef sig ⟨S_, .i32⟩) (.of main_call0_call0_call0_v7 : StableHlo.TRef sig ⟨S128x100000, .i32⟩) (broadcastInDim S128x100000 ![] bcast_S_S128x100000)
  :: StableHlo.TRef.binary (.of main_call0_call0_call0_v5 : StableHlo.TRef sig ⟨S128x100000, .i32⟩) (.of main_call0_call0_call0_v7 : StableHlo.TRef sig ⟨S128x100000, .i32⟩) (.of main_call0_call0_call0_v8 : StableHlo.TRef sig ⟨S128x100000, .i32⟩) Host.shli
  :: StableHlo.TRef.nullary (.of main_call0_call0_call0_c_1 : StableHlo.TRef sig ⟨S_, .i32⟩) (constantI S_ 32 19#32)
  :: StableHlo.TRef.unary (.of main_call0_call0_call0_c_1 : StableHlo.TRef sig ⟨S_, .i32⟩) (.of main_call0_call0_call0_v9 : StableHlo.TRef sig ⟨S128x100000, .i32⟩) (broadcastInDim S128x100000 ![] bcast_S_S128x100000)
  :: StableHlo.TRef.binary (.of main_call0_call0_call0_v5 : StableHlo.TRef sig ⟨S128x100000, .i32⟩) (.of main_call0_call0_call0_v9 : StableHlo.TRef sig ⟨S128x100000, .i32⟩) (.of main_call0_call0_call0_v10 : StableHlo.TRef sig ⟨S128x100000, .i32⟩) Host.shrui
  :: StableHlo.TRef.binary (.of main_call0_call0_call0_v8 : StableHlo.TRef sig ⟨S128x100000, .i32⟩) (.of main_call0_call0_call0_v10 : StableHlo.TRef sig ⟨S128x100000, .i32⟩) (.of main_call0_call0_call0_v11 : StableHlo.TRef sig ⟨S128x100000, .i32⟩) ori
  :: StableHlo.TRef.binary (.of main_call0_call0_call0_v6 : StableHlo.TRef sig ⟨S128x100000, .i32⟩) (.of main_call0_call0_call0_v11 : StableHlo.TRef sig ⟨S128x100000, .i32⟩) (.of main_call0_call0_call0_v12 : StableHlo.TRef sig ⟨S128x100000, .i32⟩) xori
  :: StableHlo.TRef.binary (.of main_call0_call0_call0_v6 : StableHlo.TRef sig ⟨S128x100000, .i32⟩) (.of main_call0_call0_call0_v12 : StableHlo.TRef sig ⟨S128x100000, .i32⟩) (.of main_call0_call0_call0_v13 : StableHlo.TRef sig ⟨S128x100000, .i32⟩) addi
  :: StableHlo.TRef.nullary (.of main_call0_call0_call0_c_2 : StableHlo.TRef sig ⟨S_, .i32⟩) (constantI S_ 32 15#32)
  :: StableHlo.TRef.unary (.of main_call0_call0_call0_c_2 : StableHlo.TRef sig ⟨S_, .i32⟩) (.of main_call0_call0_call0_v14 : StableHlo.TRef sig ⟨S128x100000, .i32⟩) (broadcastInDim S128x100000 ![] bcast_S_S128x100000)
  :: StableHlo.TRef.binary (.of main_call0_call0_call0_v12 : StableHlo.TRef sig ⟨S128x100000, .i32⟩) (.of main_call0_call0_call0_v14 : StableHlo.TRef sig ⟨S128x100000, .i32⟩) (.of main_call0_call0_call0_v15 : StableHlo.TRef sig ⟨S128x100000, .i32⟩) Host.shli
  :: StableHlo.TRef.nullary (.of main_call0_call0_call0_c_3 : StableHlo.TRef sig ⟨S_, .i32⟩) (constantI S_ 32 17#32)
  :: StableHlo.TRef.unary (.of main_call0_call0_call0_c_3 : StableHlo.TRef sig ⟨S_, .i32⟩) (.of main_call0_call0_call0_v16 : StableHlo.TRef sig ⟨S128x100000, .i32⟩) (broadcastInDim S128x100000 ![] bcast_S_S128x100000)
  :: StableHlo.TRef.binary (.of main_call0_call0_call0_v12 : StableHlo.TRef sig ⟨S128x100000, .i32⟩) (.of main_call0_call0_call0_v16 : StableHlo.TRef sig ⟨S128x100000, .i32⟩) (.of main_call0_call0_call0_v17 : StableHlo.TRef sig ⟨S128x100000, .i32⟩) Host.shrui
  :: StableHlo.TRef.binary (.of main_call0_call0_call0_v15 : StableHlo.TRef sig ⟨S128x100000, .i32⟩) (.of main_call0_call0_call0_v17 : StableHlo.TRef sig ⟨S128x100000, .i32⟩) (.of main_call0_call0_call0_v18 : StableHlo.TRef sig ⟨S128x100000, .i32⟩) ori
  :: StableHlo.TRef.binary (.of main_call0_call0_call0_v13 : StableHlo.TRef sig ⟨S128x100000, .i32⟩) (.of main_call0_call0_call0_v18 : StableHlo.TRef sig ⟨S128x100000, .i32⟩) (.of main_call0_call0_call0_v19 : StableHlo.TRef sig ⟨S128x100000, .i32⟩) xori
  :: StableHlo.TRef.binary (.of main_call0_call0_call0_v13 : StableHlo.TRef sig ⟨S128x100000, .i32⟩) (.of main_call0_call0_call0_v19 : StableHlo.TRef sig ⟨S128x100000, .i32⟩) (.of main_call0_call0_call0_v20 : StableHlo.TRef sig ⟨S128x100000, .i32⟩) addi
  :: StableHlo.TRef.nullary (.of main_call0_call0_call0_c_4 : StableHlo.TRef sig ⟨S_, .i32⟩) (constantI S_ 32 26#32)
  :: StableHlo.TRef.unary (.of main_call0_call0_call0_c_4 : StableHlo.TRef sig ⟨S_, .i32⟩) (.of main_call0_call0_call0_v21 : StableHlo.TRef sig ⟨S128x100000, .i32⟩) (broadcastInDim S128x100000 ![] bcast_S_S128x100000)
  :: StableHlo.TRef.binary (.of main_call0_call0_call0_v19 : StableHlo.TRef sig ⟨S128x100000, .i32⟩) (.of main_call0_call0_call0_v21 : StableHlo.TRef sig ⟨S128x100000, .i32⟩) (.of main_call0_call0_call0_v22 : StableHlo.TRef sig ⟨S128x100000, .i32⟩) Host.shli
  :: StableHlo.TRef.nullary (.of main_call0_call0_call0_c_5 : StableHlo.TRef sig ⟨S_, .i32⟩) (constantI S_ 32 6#32)
  :: StableHlo.TRef.unary (.of main_call0_call0_call0_c_5 : StableHlo.TRef sig ⟨S_, .i32⟩) (.of main_call0_call0_call0_v23 : StableHlo.TRef sig ⟨S128x100000, .i32⟩) (broadcastInDim S128x100000 ![] bcast_S_S128x100000)
  :: StableHlo.TRef.binary (.of main_call0_call0_call0_v19 : StableHlo.TRef sig ⟨S128x100000, .i32⟩) (.of main_call0_call0_call0_v23 : StableHlo.TRef sig ⟨S128x100000, .i32⟩) (.of main_call0_call0_call0_v24 : StableHlo.TRef sig ⟨S128x100000, .i32⟩) Host.shrui
  :: StableHlo.TRef.binary (.of main_call0_call0_call0_v22 : StableHlo.TRef sig ⟨S128x100000, .i32⟩) (.of main_call0_call0_call0_v24 : StableHlo.TRef sig ⟨S128x100000, .i32⟩) (.of main_call0_call0_call0_v25 : StableHlo.TRef sig ⟨S128x100000, .i32⟩) ori
  :: StableHlo.TRef.binary (.of main_call0_call0_call0_v20 : StableHlo.TRef sig ⟨S128x100000, .i32⟩) (.of main_call0_call0_call0_v25 : StableHlo.TRef sig ⟨S128x100000, .i32⟩) (.of main_call0_call0_call0_v26 : StableHlo.TRef sig ⟨S128x100000, .i32⟩) xori
  :: StableHlo.TRef.binary (.of main_call0_call0_call0_v20 : StableHlo.TRef sig ⟨S128x100000, .i32⟩) (.of main_call0_call0_call0_v26 : StableHlo.TRef sig ⟨S128x100000, .i32⟩) (.of main_call0_call0_call0_v27 : StableHlo.TRef sig ⟨S128x100000, .i32⟩) addi
  :: StableHlo.TRef.nullary (.of main_call0_call0_call0_c_6 : StableHlo.TRef sig ⟨S_, .i32⟩) (constantI S_ 32 6#32)
  :: StableHlo.TRef.unary (.of main_call0_call0_call0_c_6 : StableHlo.TRef sig ⟨S_, .i32⟩) (.of main_call0_call0_call0_v28 : StableHlo.TRef sig ⟨S128x100000, .i32⟩) (broadcastInDim S128x100000 ![] bcast_S_S128x100000)
  :: StableHlo.TRef.binary (.of main_call0_call0_call0_v26 : StableHlo.TRef sig ⟨S128x100000, .i32⟩) (.of main_call0_call0_call0_v28 : StableHlo.TRef sig ⟨S128x100000, .i32⟩) (.of main_call0_call0_call0_v29 : StableHlo.TRef sig ⟨S128x100000, .i32⟩) Host.shli
  :: StableHlo.TRef.nullary (.of main_call0_call0_call0_c_7 : StableHlo.TRef sig ⟨S_, .i32⟩) (constantI S_ 32 26#32)
  :: StableHlo.TRef.unary (.of main_call0_call0_call0_c_7 : StableHlo.TRef sig ⟨S_, .i32⟩) (.of main_call0_call0_call0_v30 : StableHlo.TRef sig ⟨S128x100000, .i32⟩) (broadcastInDim S128x100000 ![] bcast_S_S128x100000)
  :: StableHlo.TRef.binary (.of main_call0_call0_call0_v26 : StableHlo.TRef sig ⟨S128x100000, .i32⟩) (.of main_call0_call0_call0_v30 : StableHlo.TRef sig ⟨S128x100000, .i32⟩) (.of main_call0_call0_call0_v31 : StableHlo.TRef sig ⟨S128x100000, .i32⟩) Host.shrui
  :: StableHlo.TRef.binary (.of main_call0_call0_call0_v29 : StableHlo.TRef sig ⟨S128x100000, .i32⟩) (.of main_call0_call0_call0_v31 : StableHlo.TRef sig ⟨S128x100000, .i32⟩) (.of main_call0_call0_call0_v32 : StableHlo.TRef sig ⟨S128x100000, .i32⟩) ori
  :: StableHlo.TRef.binary (.of main_call0_call0_call0_v27 : StableHlo.TRef sig ⟨S128x100000, .i32⟩) (.of main_call0_call0_call0_v32 : StableHlo.TRef sig ⟨S128x100000, .i32⟩) (.of main_call0_call0_call0_v33 : StableHlo.TRef sig ⟨S128x100000, .i32⟩) xori
  :: StableHlo.TRef.unary (.of main_call0_call0_v6 : StableHlo.TRef sig ⟨S_, .i32⟩) (.of main_call0_call0_call0_v34 : StableHlo.TRef sig ⟨S128x100000, .i32⟩) (broadcastInDim S128x100000 ![] bcast_S_S128x100000)
  :: StableHlo.TRef.binary (.of main_call0_call0_call0_v27 : StableHlo.TRef sig ⟨S128x100000, .i32⟩) (.of main_call0_call0_call0_v34 : StableHlo.TRef sig ⟨S128x100000, .i32⟩) (.of main_call0_call0_call0_v35 : StableHlo.TRef sig ⟨S128x100000, .i32⟩) addi
  :: StableHlo.TRef.unary (.of main_call0_call0_call0_v1 : StableHlo.TRef sig ⟨S_, .i32⟩) (.of main_call0_call0_call0_v36 : StableHlo.TRef sig ⟨S128x100000, .i32⟩) (broadcastInDim S128x100000 ![] bcast_S_S128x100000)
  :: StableHlo.TRef.binary (.of main_call0_call0_call0_v33 : StableHlo.TRef sig ⟨S128x100000, .i32⟩) (.of main_call0_call0_call0_v36 : StableHlo.TRef sig ⟨S128x100000, .i32⟩) (.of main_call0_call0_call0_v37 : StableHlo.TRef sig ⟨S128x100000, .i32⟩) addi
  :: StableHlo.TRef.nullary (.of main_call0_call0_call0_c_8 : StableHlo.TRef sig ⟨S_, .i32⟩) (constantI S_ 32 1#32)
  :: StableHlo.TRef.unary (.of main_call0_call0_call0_c_8 : StableHlo.TRef sig ⟨S_, .i32⟩) (.of main_call0_call0_call0_v38 : StableHlo.TRef sig ⟨S128x100000, .i32⟩) (broadcastInDim S128x100000 ![] bcast_S_S128x100000)
  :: StableHlo.TRef.binary (.of main_call0_call0_call0_v37 : StableHlo.TRef sig ⟨S128x100000, .i32⟩) (.of main_call0_call0_call0_v38 : StableHlo.TRef sig ⟨S128x100000, .i32⟩) (.of main_call0_call0_call0_v39 : StableHlo.TRef sig ⟨S128x100000, .i32⟩) addi
  :: StableHlo.TRef.binary (.of main_call0_call0_call0_v35 : StableHlo.TRef sig ⟨S128x100000, .i32⟩) (.of main_call0_call0_call0_v39 : StableHlo.TRef sig ⟨S128x100000, .i32⟩) (.of main_call0_call0_call0_v40 : StableHlo.TRef sig ⟨S128x100000, .i32⟩) addi
  :: StableHlo.TRef.nullary (.of main_call0_call0_call0_c_9 : StableHlo.TRef sig ⟨S_, .i32⟩) (constantI S_ 32 17#32)
  :: StableHlo.TRef.unary (.of main_call0_call0_call0_c_9 : StableHlo.TRef sig ⟨S_, .i32⟩) (.of main_call0_call0_call0_v41 : StableHlo.TRef sig ⟨S128x100000, .i32⟩) (broadcastInDim S128x100000 ![] bcast_S_S128x100000)
  :: StableHlo.TRef.binary (.of main_call0_call0_call0_v39 : StableHlo.TRef sig ⟨S128x100000, .i32⟩) (.of main_call0_call0_call0_v41 : StableHlo.TRef sig ⟨S128x100000, .i32⟩) (.of main_call0_call0_call0_v42 : StableHlo.TRef sig ⟨S128x100000, .i32⟩) Host.shli
  :: StableHlo.TRef.nullary (.of main_call0_call0_call0_c_10 : StableHlo.TRef sig ⟨S_, .i32⟩) (constantI S_ 32 15#32)
  :: StableHlo.TRef.unary (.of main_call0_call0_call0_c_10 : StableHlo.TRef sig ⟨S_, .i32⟩) (.of main_call0_call0_call0_v43 : StableHlo.TRef sig ⟨S128x100000, .i32⟩) (broadcastInDim S128x100000 ![] bcast_S_S128x100000)
  :: StableHlo.TRef.binary (.of main_call0_call0_call0_v39 : StableHlo.TRef sig ⟨S128x100000, .i32⟩) (.of main_call0_call0_call0_v43 : StableHlo.TRef sig ⟨S128x100000, .i32⟩) (.of main_call0_call0_call0_v44 : StableHlo.TRef sig ⟨S128x100000, .i32⟩) Host.shrui
  :: StableHlo.TRef.binary (.of main_call0_call0_call0_v42 : StableHlo.TRef sig ⟨S128x100000, .i32⟩) (.of main_call0_call0_call0_v44 : StableHlo.TRef sig ⟨S128x100000, .i32⟩) (.of main_call0_call0_call0_v45 : StableHlo.TRef sig ⟨S128x100000, .i32⟩) ori
  :: StableHlo.TRef.binary (.of main_call0_call0_call0_v40 : StableHlo.TRef sig ⟨S128x100000, .i32⟩) (.of main_call0_call0_call0_v45 : StableHlo.TRef sig ⟨S128x100000, .i32⟩) (.of main_call0_call0_call0_v46 : StableHlo.TRef sig ⟨S128x100000, .i32⟩) xori
  :: StableHlo.TRef.binary (.of main_call0_call0_call0_v40 : StableHlo.TRef sig ⟨S128x100000, .i32⟩) (.of main_call0_call0_call0_v46 : StableHlo.TRef sig ⟨S128x100000, .i32⟩) (.of main_call0_call0_call0_v47 : StableHlo.TRef sig ⟨S128x100000, .i32⟩) addi
  :: StableHlo.TRef.nullary (.of main_call0_call0_call0_c_11 : StableHlo.TRef sig ⟨S_, .i32⟩) (constantI S_ 32 29#32)
  :: StableHlo.TRef.unary (.of main_call0_call0_call0_c_11 : StableHlo.TRef sig ⟨S_, .i32⟩) (.of main_call0_call0_call0_v48 : StableHlo.TRef sig ⟨S128x100000, .i32⟩) (broadcastInDim S128x100000 ![] bcast_S_S128x100000)
  :: StableHlo.TRef.binary (.of main_call0_call0_call0_v46 : StableHlo.TRef sig ⟨S128x100000, .i32⟩) (.of main_call0_call0_call0_v48 : StableHlo.TRef sig ⟨S128x100000, .i32⟩) (.of main_call0_call0_call0_v49 : StableHlo.TRef sig ⟨S128x100000, .i32⟩) Host.shli
  :: StableHlo.TRef.nullary (.of main_call0_call0_call0_c_12 : StableHlo.TRef sig ⟨S_, .i32⟩) (constantI S_ 32 3#32)
  :: StableHlo.TRef.unary (.of main_call0_call0_call0_c_12 : StableHlo.TRef sig ⟨S_, .i32⟩) (.of main_call0_call0_call0_v50 : StableHlo.TRef sig ⟨S128x100000, .i32⟩) (broadcastInDim S128x100000 ![] bcast_S_S128x100000)
  :: StableHlo.TRef.binary (.of main_call0_call0_call0_v46 : StableHlo.TRef sig ⟨S128x100000, .i32⟩) (.of main_call0_call0_call0_v50 : StableHlo.TRef sig ⟨S128x100000, .i32⟩) (.of main_call0_call0_call0_v51 : StableHlo.TRef sig ⟨S128x100000, .i32⟩) Host.shrui
  :: StableHlo.TRef.binary (.of main_call0_call0_call0_v49 : StableHlo.TRef sig ⟨S128x100000, .i32⟩) (.of main_call0_call0_call0_v51 : StableHlo.TRef sig ⟨S128x100000, .i32⟩) (.of main_call0_call0_call0_v52 : StableHlo.TRef sig ⟨S128x100000, .i32⟩) ori
  :: StableHlo.TRef.binary (.of main_call0_call0_call0_v47 : StableHlo.TRef sig ⟨S128x100000, .i32⟩) (.of main_call0_call0_call0_v52 : StableHlo.TRef sig ⟨S128x100000, .i32⟩) (.of main_call0_call0_call0_v53 : StableHlo.TRef sig ⟨S128x100000, .i32⟩) xori
  :: StableHlo.TRef.binary (.of main_call0_call0_call0_v47 : StableHlo.TRef sig ⟨S128x100000, .i32⟩) (.of main_call0_call0_call0_v53 : StableHlo.TRef sig ⟨S128x100000, .i32⟩) (.of main_call0_call0_call0_v54 : StableHlo.TRef sig ⟨S128x100000, .i32⟩) addi
  :: StableHlo.TRef.nullary (.of main_call0_call0_call0_c_13 : StableHlo.TRef sig ⟨S_, .i32⟩) (constantI S_ 32 16#32)
  :: StableHlo.TRef.unary (.of main_call0_call0_call0_c_13 : StableHlo.TRef sig ⟨S_, .i32⟩) (.of main_call0_call0_call0_v55 : StableHlo.TRef sig ⟨S128x100000, .i32⟩) (broadcastInDim S128x100000 ![] bcast_S_S128x100000)
  :: StableHlo.TRef.binary (.of main_call0_call0_call0_v53 : StableHlo.TRef sig ⟨S128x100000, .i32⟩) (.of main_call0_call0_call0_v55 : StableHlo.TRef sig ⟨S128x100000, .i32⟩) (.of main_call0_call0_call0_v56 : StableHlo.TRef sig ⟨S128x100000, .i32⟩) Host.shli
  :: StableHlo.TRef.nullary (.of main_call0_call0_call0_c_14 : StableHlo.TRef sig ⟨S_, .i32⟩) (constantI S_ 32 16#32)
  :: StableHlo.TRef.unary (.of main_call0_call0_call0_c_14 : StableHlo.TRef sig ⟨S_, .i32⟩) (.of main_call0_call0_call0_v57 : StableHlo.TRef sig ⟨S128x100000, .i32⟩) (broadcastInDim S128x100000 ![] bcast_S_S128x100000)
  :: StableHlo.TRef.binary (.of main_call0_call0_call0_v53 : StableHlo.TRef sig ⟨S128x100000, .i32⟩) (.of main_call0_call0_call0_v57 : StableHlo.TRef sig ⟨S128x100000, .i32⟩) (.of main_call0_call0_call0_v58 : StableHlo.TRef sig ⟨S128x100000, .i32⟩) Host.shrui
  :: StableHlo.TRef.binary (.of main_call0_call0_call0_v56 : StableHlo.TRef sig ⟨S128x100000, .i32⟩) (.of main_call0_call0_call0_v58 : StableHlo.TRef sig ⟨S128x100000, .i32⟩) (.of main_call0_call0_call0_v59 : StableHlo.TRef sig ⟨S128x100000, .i32⟩) ori
  :: StableHlo.TRef.binary (.of main_call0_call0_call0_v54 : StableHlo.TRef sig ⟨S128x100000, .i32⟩) (.of main_call0_call0_call0_v59 : StableHlo.TRef sig ⟨S128x100000, .i32⟩) (.of main_call0_call0_call0_v60 : StableHlo.TRef sig ⟨S128x100000, .i32⟩) xori
  :: StableHlo.TRef.binary (.of main_call0_call0_call0_v54 : StableHlo.TRef sig ⟨S128x100000, .i32⟩) (.of main_call0_call0_call0_v60 : StableHlo.TRef sig ⟨S128x100000, .i32⟩) (.of main_call0_call0_call0_v61 : StableHlo.TRef sig ⟨S128x100000, .i32⟩) addi
  :: StableHlo.TRef.nullary (.of main_call0_call0_call0_c_15 : StableHlo.TRef sig ⟨S_, .i32⟩) (constantI S_ 32 24#32)
  :: StableHlo.TRef.unary (.of main_call0_call0_call0_c_15 : StableHlo.TRef sig ⟨S_, .i32⟩) (.of main_call0_call0_call0_v62 : StableHlo.TRef sig ⟨S128x100000, .i32⟩) (broadcastInDim S128x100000 ![] bcast_S_S128x100000)
  :: StableHlo.TRef.binary (.of main_call0_call0_call0_v60 : StableHlo.TRef sig ⟨S128x100000, .i32⟩) (.of main_call0_call0_call0_v62 : StableHlo.TRef sig ⟨S128x100000, .i32⟩) (.of main_call0_call0_call0_v63 : StableHlo.TRef sig ⟨S128x100000, .i32⟩) Host.shli
  :: StableHlo.TRef.nullary (.of main_call0_call0_call0_c_16 : StableHlo.TRef sig ⟨S_, .i32⟩) (constantI S_ 32 8#32)
  :: StableHlo.TRef.unary (.of main_call0_call0_call0_c_16 : StableHlo.TRef sig ⟨S_, .i32⟩) (.of main_call0_call0_call0_v64 : StableHlo.TRef sig ⟨S128x100000, .i32⟩) (broadcastInDim S128x100000 ![] bcast_S_S128x100000)
  :: StableHlo.TRef.binary (.of main_call0_call0_call0_v60 : StableHlo.TRef sig ⟨S128x100000, .i32⟩) (.of main_call0_call0_call0_v64 : StableHlo.TRef sig ⟨S128x100000, .i32⟩) (.of main_call0_call0_call0_v65 : StableHlo.TRef sig ⟨S128x100000, .i32⟩) Host.shrui
  :: StableHlo.TRef.binary (.of main_call0_call0_call0_v63 : StableHlo.TRef sig ⟨S128x100000, .i32⟩) (.of main_call0_call0_call0_v65 : StableHlo.TRef sig ⟨S128x100000, .i32⟩) (.of main_call0_call0_call0_v66 : StableHlo.TRef sig ⟨S128x100000, .i32⟩) ori
  :: StableHlo.TRef.binary (.of main_call0_call0_call0_v61 : StableHlo.TRef sig ⟨S128x100000, .i32⟩) (.of main_call0_call0_call0_v66 : StableHlo.TRef sig ⟨S128x100000, .i32⟩) (.of main_call0_call0_call0_v67 : StableHlo.TRef sig ⟨S128x100000, .i32⟩) xori
  :: StableHlo.TRef.unary (.of main_call0_call0_call0_v1 : StableHlo.TRef sig ⟨S_, .i32⟩) (.of main_call0_call0_call0_v68 : StableHlo.TRef sig ⟨S128x100000, .i32⟩) (broadcastInDim S128x100000 ![] bcast_S_S128x100000)
  :: StableHlo.TRef.binary (.of main_call0_call0_call0_v61 : StableHlo.TRef sig ⟨S128x100000, .i32⟩) (.of main_call0_call0_call0_v68 : StableHlo.TRef sig ⟨S128x100000, .i32⟩) (.of main_call0_call0_call0_v69 : StableHlo.TRef sig ⟨S128x100000, .i32⟩) addi
  :: StableHlo.TRef.unary (.of main_call0_call0_v4 : StableHlo.TRef sig ⟨S_, .i32⟩) (.of main_call0_call0_call0_v70 : StableHlo.TRef sig ⟨S128x100000, .i32⟩) (broadcastInDim S128x100000 ![] bcast_S_S128x100000)
  :: StableHlo.TRef.binary (.of main_call0_call0_call0_v67 : StableHlo.TRef sig ⟨S128x100000, .i32⟩) (.of main_call0_call0_call0_v70 : StableHlo.TRef sig ⟨S128x100000, .i32⟩) (.of main_call0_call0_call0_v71 : StableHlo.TRef sig ⟨S128x100000, .i32⟩) addi
  :: StableHlo.TRef.nullary (.of main_call0_call0_call0_c_17 : StableHlo.TRef sig ⟨S_, .i32⟩) (constantI S_ 32 2#32)
  :: StableHlo.TRef.unary (.of main_call0_call0_call0_c_17 : StableHlo.TRef sig ⟨S_, .i32⟩) (.of main_call0_call0_call0_v72 : StableHlo.TRef sig ⟨S128x100000, .i32⟩) (broadcastInDim S128x100000 ![] bcast_S_S128x100000)
  :: StableHlo.TRef.binary (.of main_call0_call0_call0_v71 : StableHlo.TRef sig ⟨S128x100000, .i32⟩) (.of main_call0_call0_call0_v72 : StableHlo.TRef sig ⟨S128x100000, .i32⟩) (.of main_call0_call0_call0_v73 : StableHlo.TRef sig ⟨S128x100000, .i32⟩) addi
  :: StableHlo.TRef.binary (.of main_call0_call0_call0_v69 : StableHlo.TRef sig ⟨S128x100000, .i32⟩) (.of main_call0_call0_call0_v73 : StableHlo.TRef sig ⟨S128x100000, .i32⟩) (.of main_call0_call0_call0_v74 : StableHlo.TRef sig ⟨S128x100000, .i32⟩) addi
  :: StableHlo.TRef.nullary (.of main_call0_call0_call0_c_18 : StableHlo.TRef sig ⟨S_, .i32⟩) (constantI S_ 32 13#32)
  :: StableHlo.TRef.unary (.of main_call0_call0_call0_c_18 : StableHlo.TRef sig ⟨S_, .i32⟩) (.of main_call0_call0_call0_v75 : StableHlo.TRef sig ⟨S128x100000, .i32⟩) (broadcastInDim S128x100000 ![] bcast_S_S128x100000)
  :: StableHlo.TRef.binary (.of main_call0_call0_call0_v73 : StableHlo.TRef sig ⟨S128x100000, .i32⟩) (.of main_call0_call0_call0_v75 : StableHlo.TRef sig ⟨S128x100000, .i32⟩) (.of main_call0_call0_call0_v76 : StableHlo.TRef sig ⟨S128x100000, .i32⟩) Host.shli
  :: StableHlo.TRef.nullary (.of main_call0_call0_call0_c_19 : StableHlo.TRef sig ⟨S_, .i32⟩) (constantI S_ 32 19#32)
  :: StableHlo.TRef.unary (.of main_call0_call0_call0_c_19 : StableHlo.TRef sig ⟨S_, .i32⟩) (.of main_call0_call0_call0_v77 : StableHlo.TRef sig ⟨S128x100000, .i32⟩) (broadcastInDim S128x100000 ![] bcast_S_S128x100000)
  :: StableHlo.TRef.binary (.of main_call0_call0_call0_v73 : StableHlo.TRef sig ⟨S128x100000, .i32⟩) (.of main_call0_call0_call0_v77 : StableHlo.TRef sig ⟨S128x100000, .i32⟩) (.of main_call0_call0_call0_v78 : StableHlo.TRef sig ⟨S128x100000, .i32⟩) Host.shrui
  :: StableHlo.TRef.binary (.of main_call0_call0_call0_v76 : StableHlo.TRef sig ⟨S128x100000, .i32⟩) (.of main_call0_call0_call0_v78 : StableHlo.TRef sig ⟨S128x100000, .i32⟩) (.of main_call0_call0_call0_v79 : StableHlo.TRef sig ⟨S128x100000, .i32⟩) ori
  :: StableHlo.TRef.binary (.of main_call0_call0_call0_v74 : StableHlo.TRef sig ⟨S128x100000, .i32⟩) (.of main_call0_call0_call0_v79 : StableHlo.TRef sig ⟨S128x100000, .i32⟩) (.of main_call0_call0_call0_v80 : StableHlo.TRef sig ⟨S128x100000, .i32⟩) xori
  :: StableHlo.TRef.binary (.of main_call0_call0_call0_v74 : StableHlo.TRef sig ⟨S128x100000, .i32⟩) (.of main_call0_call0_call0_v80 : StableHlo.TRef sig ⟨S128x100000, .i32⟩) (.of main_call0_call0_call0_v81 : StableHlo.TRef sig ⟨S128x100000, .i32⟩) addi
  :: StableHlo.TRef.nullary (.of main_call0_call0_call0_c_20 : StableHlo.TRef sig ⟨S_, .i32⟩) (constantI S_ 32 15#32)
  :: StableHlo.TRef.unary (.of main_call0_call0_call0_c_20 : StableHlo.TRef sig ⟨S_, .i32⟩) (.of main_call0_call0_call0_v82 : StableHlo.TRef sig ⟨S128x100000, .i32⟩) (broadcastInDim S128x100000 ![] bcast_S_S128x100000)
  :: StableHlo.TRef.binary (.of main_call0_call0_call0_v80 : StableHlo.TRef sig ⟨S128x100000, .i32⟩) (.of main_call0_call0_call0_v82 : StableHlo.TRef sig ⟨S128x100000, .i32⟩) (.of main_call0_call0_call0_v83 : StableHlo.TRef sig ⟨S128x100000, .i32⟩) Host.shli
  :: StableHlo.TRef.nullary (.of main_call0_call0_call0_c_21 : StableHlo.TRef sig ⟨S_, .i32⟩) (constantI S_ 32 17#32)
  :: StableHlo.TRef.unary (.of main_call0_call0_call0_c_21 : StableHlo.TRef sig ⟨S_, .i32⟩) (.of main_call0_call0_call0_v84 : StableHlo.TRef sig ⟨S128x100000, .i32⟩) (broadcastInDim S128x100000 ![] bcast_S_S128x100000)
  :: StableHlo.TRef.binary (.of main_call0_call0_call0_v80 : StableHlo.TRef sig ⟨S128x100000, .i32⟩) (.of main_call0_call0_call0_v84 : StableHlo.TRef sig ⟨S128x100000, .i32⟩) (.of main_call0_call0_call0_v85 : StableHlo.TRef sig ⟨S128x100000, .i32⟩) Host.shrui
  :: StableHlo.TRef.binary (.of main_call0_call0_call0_v83 : StableHlo.TRef sig ⟨S128x100000, .i32⟩) (.of main_call0_call0_call0_v85 : StableHlo.TRef sig ⟨S128x100000, .i32⟩) (.of main_call0_call0_call0_v86 : StableHlo.TRef sig ⟨S128x100000, .i32⟩) ori
  :: StableHlo.TRef.binary (.of main_call0_call0_call0_v81 : StableHlo.TRef sig ⟨S128x100000, .i32⟩) (.of main_call0_call0_call0_v86 : StableHlo.TRef sig ⟨S128x100000, .i32⟩) (.of main_call0_call0_call0_v87 : StableHlo.TRef sig ⟨S128x100000, .i32⟩) xori
  :: StableHlo.TRef.binary (.of main_call0_call0_call0_v81 : StableHlo.TRef sig ⟨S128x100000, .i32⟩) (.of main_call0_call0_call0_v87 : StableHlo.TRef sig ⟨S128x100000, .i32⟩) (.of main_call0_call0_call0_v88 : StableHlo.TRef sig ⟨S128x100000, .i32⟩) addi
  :: StableHlo.TRef.nullary (.of main_call0_call0_call0_c_22 : StableHlo.TRef sig ⟨S_, .i32⟩) (constantI S_ 32 26#32)
  :: StableHlo.TRef.unary (.of main_call0_call0_call0_c_22 : StableHlo.TRef sig ⟨S_, .i32⟩) (.of main_call0_call0_call0_v89 : StableHlo.TRef sig ⟨S128x100000, .i32⟩) (broadcastInDim S128x100000 ![] bcast_S_S128x100000)
  :: StableHlo.TRef.binary (.of main_call0_call0_call0_v87 : StableHlo.TRef sig ⟨S128x100000, .i32⟩) (.of main_call0_call0_call0_v89 : StableHlo.TRef sig ⟨S128x100000, .i32⟩) (.of main_call0_call0_call0_v90 : StableHlo.TRef sig ⟨S128x100000, .i32⟩) Host.shli
  :: StableHlo.TRef.nullary (.of main_call0_call0_call0_c_23 : StableHlo.TRef sig ⟨S_, .i32⟩) (constantI S_ 32 6#32)
  :: StableHlo.TRef.unary (.of main_call0_call0_call0_c_23 : StableHlo.TRef sig ⟨S_, .i32⟩) (.of main_call0_call0_call0_v91 : StableHlo.TRef sig ⟨S128x100000, .i32⟩) (broadcastInDim S128x100000 ![] bcast_S_S128x100000)
  :: StableHlo.TRef.binary (.of main_call0_call0_call0_v87 : StableHlo.TRef sig ⟨S128x100000, .i32⟩) (.of main_call0_call0_call0_v91 : StableHlo.TRef sig ⟨S128x100000, .i32⟩) (.of main_call0_call0_call0_v92 : StableHlo.TRef sig ⟨S128x100000, .i32⟩) Host.shrui
  :: StableHlo.TRef.binary (.of main_call0_call0_call0_v90 : StableHlo.TRef sig ⟨S128x100000, .i32⟩) (.of main_call0_call0_call0_v92 : StableHlo.TRef sig ⟨S128x100000, .i32⟩) (.of main_call0_call0_call0_v93 : StableHlo.TRef sig ⟨S128x100000, .i32⟩) ori
  :: StableHlo.TRef.binary (.of main_call0_call0_call0_v88 : StableHlo.TRef sig ⟨S128x100000, .i32⟩) (.of main_call0_call0_call0_v93 : StableHlo.TRef sig ⟨S128x100000, .i32⟩) (.of main_call0_call0_call0_v94 : StableHlo.TRef sig ⟨S128x100000, .i32⟩) xori
  :: StableHlo.TRef.binary (.of main_call0_call0_call0_v88 : StableHlo.TRef sig ⟨S128x100000, .i32⟩) (.of main_call0_call0_call0_v94 : StableHlo.TRef sig ⟨S128x100000, .i32⟩) (.of main_call0_call0_call0_v95 : StableHlo.TRef sig ⟨S128x100000, .i32⟩) addi
  :: StableHlo.TRef.nullary (.of main_call0_call0_call0_c_24 : StableHlo.TRef sig ⟨S_, .i32⟩) (constantI S_ 32 6#32)
  :: StableHlo.TRef.unary (.of main_call0_call0_call0_c_24 : StableHlo.TRef sig ⟨S_, .i32⟩) (.of main_call0_call0_call0_v96 : StableHlo.TRef sig ⟨S128x100000, .i32⟩) (broadcastInDim S128x100000 ![] bcast_S_S128x100000)
  :: StableHlo.TRef.binary (.of main_call0_call0_call0_v94 : StableHlo.TRef sig ⟨S128x100000, .i32⟩) (.of main_call0_call0_call0_v96 : StableHlo.TRef sig ⟨S128x100000, .i32⟩) (.of main_call0_call0_call0_v97 : StableHlo.TRef sig ⟨S128x100000, .i32⟩) Host.shli
  :: StableHlo.TRef.nullary (.of main_call0_call0_call0_c_25 : StableHlo.TRef sig ⟨S_, .i32⟩) (constantI S_ 32 26#32)
  :: StableHlo.TRef.unary (.of main_call0_call0_call0_c_25 : StableHlo.TRef sig ⟨S_, .i32⟩) (.of main_call0_call0_call0_v98 : StableHlo.TRef sig ⟨S128x100000, .i32⟩) (broadcastInDim S128x100000 ![] bcast_S_S128x100000)
  :: StableHlo.TRef.binary (.of main_call0_call0_call0_v94 : StableHlo.TRef sig ⟨S128x100000, .i32⟩) (.of main_call0_call0_call0_v98 : StableHlo.TRef sig ⟨S128x100000, .i32⟩) (.of main_call0_call0_call0_v99 : StableHlo.TRef sig ⟨S128x100000, .i32⟩) Host.shrui
  :: StableHlo.TRef.binary (.of main_call0_call0_call0_v97 : StableHlo.TRef sig ⟨S128x100000, .i32⟩) (.of main_call0_call0_call0_v99 : StableHlo.TRef sig ⟨S128x100000, .i32⟩) (.of main_call0_call0_call0_v100 : StableHlo.TRef sig ⟨S128x100000, .i32⟩) ori
  :: StableHlo.TRef.binary (.of main_call0_call0_call0_v95 : StableHlo.TRef sig ⟨S128x100000, .i32⟩) (.of main_call0_call0_call0_v100 : StableHlo.TRef sig ⟨S128x100000, .i32⟩) (.of main_call0_call0_call0_v101 : StableHlo.TRef sig ⟨S128x100000, .i32⟩) xori
  :: StableHlo.TRef.unary (.of main_call0_call0_v4 : StableHlo.TRef sig ⟨S_, .i32⟩) (.of main_call0_call0_call0_v102 : StableHlo.TRef sig ⟨S128x100000, .i32⟩) (broadcastInDim S128x100000 ![] bcast_S_S128x100000)
  :: StableHlo.TRef.binary (.of main_call0_call0_call0_v95 : StableHlo.TRef sig ⟨S128x100000, .i32⟩) (.of main_call0_call0_call0_v102 : StableHlo.TRef sig ⟨S128x100000, .i32⟩) (.of main_call0_call0_call0_v103 : StableHlo.TRef sig ⟨S128x100000, .i32⟩) addi
  :: StableHlo.TRef.unary (.of main_call0_call0_v6 : StableHlo.TRef sig ⟨S_, .i32⟩) (.of main_call0_call0_call0_v104 : StableHlo.TRef sig ⟨S128x100000, .i32⟩) (broadcastInDim S128x100000 ![] bcast_S_S128x100000)
  :: StableHlo.TRef.binary (.of main_call0_call0_call0_v101 : StableHlo.TRef sig ⟨S128x100000, .i32⟩) (.of main_call0_call0_call0_v104 : StableHlo.TRef sig ⟨S128x100000, .i32⟩) (.of main_call0_call0_call0_v105 : StableHlo.TRef sig ⟨S128x100000, .i32⟩) addi
  :: StableHlo.TRef.nullary (.of main_call0_call0_call0_c_26 : StableHlo.TRef sig ⟨S_, .i32⟩) (constantI S_ 32 3#32)
  :: StableHlo.TRef.unary (.of main_call0_call0_call0_c_26 : StableHlo.TRef sig ⟨S_, .i32⟩) (.of main_call0_call0_call0_v106 : StableHlo.TRef sig ⟨S128x100000, .i32⟩) (broadcastInDim S128x100000 ![] bcast_S_S128x100000)
  :: StableHlo.TRef.binary (.of main_call0_call0_call0_v105 : StableHlo.TRef sig ⟨S128x100000, .i32⟩) (.of main_call0_call0_call0_v106 : StableHlo.TRef sig ⟨S128x100000, .i32⟩) (.of main_call0_call0_call0_v107 : StableHlo.TRef sig ⟨S128x100000, .i32⟩) addi
  :: StableHlo.TRef.binary (.of main_call0_call0_call0_v103 : StableHlo.TRef sig ⟨S128x100000, .i32⟩) (.of main_call0_call0_call0_v107 : StableHlo.TRef sig ⟨S128x100000, .i32⟩) (.of main_call0_call0_call0_v108 : StableHlo.TRef sig ⟨S128x100000, .i32⟩) addi
  :: StableHlo.TRef.nullary (.of main_call0_call0_call0_c_27 : StableHlo.TRef sig ⟨S_, .i32⟩) (constantI S_ 32 17#32)
  :: StableHlo.TRef.unary (.of main_call0_call0_call0_c_27 : StableHlo.TRef sig ⟨S_, .i32⟩) (.of main_call0_call0_call0_v109 : StableHlo.TRef sig ⟨S128x100000, .i32⟩) (broadcastInDim S128x100000 ![] bcast_S_S128x100000)
  :: StableHlo.TRef.binary (.of main_call0_call0_call0_v107 : StableHlo.TRef sig ⟨S128x100000, .i32⟩) (.of main_call0_call0_call0_v109 : StableHlo.TRef sig ⟨S128x100000, .i32⟩) (.of main_call0_call0_call0_v110 : StableHlo.TRef sig ⟨S128x100000, .i32⟩) Host.shli
  :: StableHlo.TRef.nullary (.of main_call0_call0_call0_c_28 : StableHlo.TRef sig ⟨S_, .i32⟩) (constantI S_ 32 15#32)
  :: StableHlo.TRef.unary (.of main_call0_call0_call0_c_28 : StableHlo.TRef sig ⟨S_, .i32⟩) (.of main_call0_call0_call0_v111 : StableHlo.TRef sig ⟨S128x100000, .i32⟩) (broadcastInDim S128x100000 ![] bcast_S_S128x100000)
  :: StableHlo.TRef.binary (.of main_call0_call0_call0_v107 : StableHlo.TRef sig ⟨S128x100000, .i32⟩) (.of main_call0_call0_call0_v111 : StableHlo.TRef sig ⟨S128x100000, .i32⟩) (.of main_call0_call0_call0_v112 : StableHlo.TRef sig ⟨S128x100000, .i32⟩) Host.shrui
  :: StableHlo.TRef.binary (.of main_call0_call0_call0_v110 : StableHlo.TRef sig ⟨S128x100000, .i32⟩) (.of main_call0_call0_call0_v112 : StableHlo.TRef sig ⟨S128x100000, .i32⟩) (.of main_call0_call0_call0_v113 : StableHlo.TRef sig ⟨S128x100000, .i32⟩) ori
  :: StableHlo.TRef.binary (.of main_call0_call0_call0_v108 : StableHlo.TRef sig ⟨S128x100000, .i32⟩) (.of main_call0_call0_call0_v113 : StableHlo.TRef sig ⟨S128x100000, .i32⟩) (.of main_call0_call0_call0_v114 : StableHlo.TRef sig ⟨S128x100000, .i32⟩) xori
  :: StableHlo.TRef.binary (.of main_call0_call0_call0_v108 : StableHlo.TRef sig ⟨S128x100000, .i32⟩) (.of main_call0_call0_call0_v114 : StableHlo.TRef sig ⟨S128x100000, .i32⟩) (.of main_call0_call0_call0_v115 : StableHlo.TRef sig ⟨S128x100000, .i32⟩) addi
  :: StableHlo.TRef.nullary (.of main_call0_call0_call0_c_29 : StableHlo.TRef sig ⟨S_, .i32⟩) (constantI S_ 32 29#32)
  :: StableHlo.TRef.unary (.of main_call0_call0_call0_c_29 : StableHlo.TRef sig ⟨S_, .i32⟩) (.of main_call0_call0_call0_v116 : StableHlo.TRef sig ⟨S128x100000, .i32⟩) (broadcastInDim S128x100000 ![] bcast_S_S128x100000)
  :: StableHlo.TRef.binary (.of main_call0_call0_call0_v114 : StableHlo.TRef sig ⟨S128x100000, .i32⟩) (.of main_call0_call0_call0_v116 : StableHlo.TRef sig ⟨S128x100000, .i32⟩) (.of main_call0_call0_call0_v117 : StableHlo.TRef sig ⟨S128x100000, .i32⟩) Host.shli
  :: StableHlo.TRef.nullary (.of main_call0_call0_call0_c_30 : StableHlo.TRef sig ⟨S_, .i32⟩) (constantI S_ 32 3#32)
  :: StableHlo.TRef.unary (.of main_call0_call0_call0_c_30 : StableHlo.TRef sig ⟨S_, .i32⟩) (.of main_call0_call0_call0_v118 : StableHlo.TRef sig ⟨S128x100000, .i32⟩) (broadcastInDim S128x100000 ![] bcast_S_S128x100000)
  :: StableHlo.TRef.binary (.of main_call0_call0_call0_v114 : StableHlo.TRef sig ⟨S128x100000, .i32⟩) (.of main_call0_call0_call0_v118 : StableHlo.TRef sig ⟨S128x100000, .i32⟩) (.of main_call0_call0_call0_v119 : StableHlo.TRef sig ⟨S128x100000, .i32⟩) Host.shrui
  :: StableHlo.TRef.binary (.of main_call0_call0_call0_v117 : StableHlo.TRef sig ⟨S128x100000, .i32⟩) (.of main_call0_call0_call0_v119 : StableHlo.TRef sig ⟨S128x100000, .i32⟩) (.of main_call0_call0_call0_v120 : StableHlo.TRef sig ⟨S128x100000, .i32⟩) ori
  :: StableHlo.TRef.binary (.of main_call0_call0_call0_v115 : StableHlo.TRef sig ⟨S128x100000, .i32⟩) (.of main_call0_call0_call0_v120 : StableHlo.TRef sig ⟨S128x100000, .i32⟩) (.of main_call0_call0_call0_v121 : StableHlo.TRef sig ⟨S128x100000, .i32⟩) xori
  :: StableHlo.TRef.binary (.of main_call0_call0_call0_v115 : StableHlo.TRef sig ⟨S128x100000, .i32⟩) (.of main_call0_call0_call0_v121 : StableHlo.TRef sig ⟨S128x100000, .i32⟩) (.of main_call0_call0_call0_v122 : StableHlo.TRef sig ⟨S128x100000, .i32⟩) addi
  :: StableHlo.TRef.nullary (.of main_call0_call0_call0_c_31 : StableHlo.TRef sig ⟨S_, .i32⟩) (constantI S_ 32 16#32)
  :: StableHlo.TRef.unary (.of main_call0_call0_call0_c_31 : StableHlo.TRef sig ⟨S_, .i32⟩) (.of main_call0_call0_call0_v123 : StableHlo.TRef sig ⟨S128x100000, .i32⟩) (broadcastInDim S128x100000 ![] bcast_S_S128x100000)
  :: StableHlo.TRef.binary (.of main_call0_call0_call0_v121 : StableHlo.TRef sig ⟨S128x100000, .i32⟩) (.of main_call0_call0_call0_v123 : StableHlo.TRef sig ⟨S128x100000, .i32⟩) (.of main_call0_call0_call0_v124 : StableHlo.TRef sig ⟨S128x100000, .i32⟩) Host.shli
  :: StableHlo.TRef.nullary (.of main_call0_call0_call0_c_32 : StableHlo.TRef sig ⟨S_, .i32⟩) (constantI S_ 32 16#32)
  :: StableHlo.TRef.unary (.of main_call0_call0_call0_c_32 : StableHlo.TRef sig ⟨S_, .i32⟩) (.of main_call0_call0_call0_v125 : StableHlo.TRef sig ⟨S128x100000, .i32⟩) (broadcastInDim S128x100000 ![] bcast_S_S128x100000)
  :: StableHlo.TRef.binary (.of main_call0_call0_call0_v121 : StableHlo.TRef sig ⟨S128x100000, .i32⟩) (.of main_call0_call0_call0_v125 : StableHlo.TRef sig ⟨S128x100000, .i32⟩) (.of main_call0_call0_call0_v126 : StableHlo.TRef sig ⟨S128x100000, .i32⟩) Host.shrui
  :: StableHlo.TRef.binary (.of main_call0_call0_call0_v124 : StableHlo.TRef sig ⟨S128x100000, .i32⟩) (.of main_call0_call0_call0_v126 : StableHlo.TRef sig ⟨S128x100000, .i32⟩) (.of main_call0_call0_call0_v127 : StableHlo.TRef sig ⟨S128x100000, .i32⟩) ori
  :: StableHlo.TRef.binary (.of main_call0_call0_call0_v122 : StableHlo.TRef sig ⟨S128x100000, .i32⟩) (.of main_call0_call0_call0_v127 : StableHlo.TRef sig ⟨S128x100000, .i32⟩) (.of main_call0_call0_call0_v128 : StableHlo.TRef sig ⟨S128x100000, .i32⟩) xori
  :: StableHlo.TRef.binary (.of main_call0_call0_call0_v122 : StableHlo.TRef sig ⟨S128x100000, .i32⟩) (.of main_call0_call0_call0_v128 : StableHlo.TRef sig ⟨S128x100000, .i32⟩) (.of main_call0_call0_call0_v129 : StableHlo.TRef sig ⟨S128x100000, .i32⟩) addi
  :: StableHlo.TRef.nullary (.of main_call0_call0_call0_c_33 : StableHlo.TRef sig ⟨S_, .i32⟩) (constantI S_ 32 24#32)
  :: StableHlo.TRef.unary (.of main_call0_call0_call0_c_33 : StableHlo.TRef sig ⟨S_, .i32⟩) (.of main_call0_call0_call0_v130 : StableHlo.TRef sig ⟨S128x100000, .i32⟩) (broadcastInDim S128x100000 ![] bcast_S_S128x100000)
  :: StableHlo.TRef.binary (.of main_call0_call0_call0_v128 : StableHlo.TRef sig ⟨S128x100000, .i32⟩) (.of main_call0_call0_call0_v130 : StableHlo.TRef sig ⟨S128x100000, .i32⟩) (.of main_call0_call0_call0_v131 : StableHlo.TRef sig ⟨S128x100000, .i32⟩) Host.shli
  :: StableHlo.TRef.nullary (.of main_call0_call0_call0_c_34 : StableHlo.TRef sig ⟨S_, .i32⟩) (constantI S_ 32 8#32)
  :: StableHlo.TRef.unary (.of main_call0_call0_call0_c_34 : StableHlo.TRef sig ⟨S_, .i32⟩) (.of main_call0_call0_call0_v132 : StableHlo.TRef sig ⟨S128x100000, .i32⟩) (broadcastInDim S128x100000 ![] bcast_S_S128x100000)
  :: StableHlo.TRef.binary (.of main_call0_call0_call0_v128 : StableHlo.TRef sig ⟨S128x100000, .i32⟩) (.of main_call0_call0_call0_v132 : StableHlo.TRef sig ⟨S128x100000, .i32⟩) (.of main_call0_call0_call0_v133 : StableHlo.TRef sig ⟨S128x100000, .i32⟩) Host.shrui
  :: StableHlo.TRef.binary (.of main_call0_call0_call0_v131 : StableHlo.TRef sig ⟨S128x100000, .i32⟩) (.of main_call0_call0_call0_v133 : StableHlo.TRef sig ⟨S128x100000, .i32⟩) (.of main_call0_call0_call0_v134 : StableHlo.TRef sig ⟨S128x100000, .i32⟩) ori
  :: StableHlo.TRef.binary (.of main_call0_call0_call0_v129 : StableHlo.TRef sig ⟨S128x100000, .i32⟩) (.of main_call0_call0_call0_v134 : StableHlo.TRef sig ⟨S128x100000, .i32⟩) (.of main_call0_call0_call0_v135 : StableHlo.TRef sig ⟨S128x100000, .i32⟩) xori
  :: StableHlo.TRef.unary (.of main_call0_call0_v6 : StableHlo.TRef sig ⟨S_, .i32⟩) (.of main_call0_call0_call0_v136 : StableHlo.TRef sig ⟨S128x100000, .i32⟩) (broadcastInDim S128x100000 ![] bcast_S_S128x100000)
  :: StableHlo.TRef.binary (.of main_call0_call0_call0_v129 : StableHlo.TRef sig ⟨S128x100000, .i32⟩) (.of main_call0_call0_call0_v136 : StableHlo.TRef sig ⟨S128x100000, .i32⟩) (.of main_call0_call0_call0_v137 : StableHlo.TRef sig ⟨S128x100000, .i32⟩) addi
  :: StableHlo.TRef.unary (.of main_call0_call0_call0_v1 : StableHlo.TRef sig ⟨S_, .i32⟩) (.of main_call0_call0_call0_v138 : StableHlo.TRef sig ⟨S128x100000, .i32⟩) (broadcastInDim S128x100000 ![] bcast_S_S128x100000)
  :: StableHlo.TRef.binary (.of main_call0_call0_call0_v135 : StableHlo.TRef sig ⟨S128x100000, .i32⟩) (.of main_call0_call0_call0_v138 : StableHlo.TRef sig ⟨S128x100000, .i32⟩) (.of main_call0_call0_call0_v139 : StableHlo.TRef sig ⟨S128x100000, .i32⟩) addi
  :: StableHlo.TRef.nullary (.of main_call0_call0_call0_c_35 : StableHlo.TRef sig ⟨S_, .i32⟩) (constantI S_ 32 4#32)
  :: StableHlo.TRef.unary (.of main_call0_call0_call0_c_35 : StableHlo.TRef sig ⟨S_, .i32⟩) (.of main_call0_call0_call0_v140 : StableHlo.TRef sig ⟨S128x100000, .i32⟩) (broadcastInDim S128x100000 ![] bcast_S_S128x100000)
  :: StableHlo.TRef.binary (.of main_call0_call0_call0_v139 : StableHlo.TRef sig ⟨S128x100000, .i32⟩) (.of main_call0_call0_call0_v140 : StableHlo.TRef sig ⟨S128x100000, .i32⟩) (.of main_call0_call0_call0_v141 : StableHlo.TRef sig ⟨S128x100000, .i32⟩) addi
  :: StableHlo.TRef.binary (.of main_call0_call0_call0_v137 : StableHlo.TRef sig ⟨S128x100000, .i32⟩) (.of main_call0_call0_call0_v141 : StableHlo.TRef sig ⟨S128x100000, .i32⟩) (.of main_call0_call0_call0_v142 : StableHlo.TRef sig ⟨S128x100000, .i32⟩) addi
  :: StableHlo.TRef.nullary (.of main_call0_call0_call0_c_36 : StableHlo.TRef sig ⟨S_, .i32⟩) (constantI S_ 32 13#32)
  :: StableHlo.TRef.unary (.of main_call0_call0_call0_c_36 : StableHlo.TRef sig ⟨S_, .i32⟩) (.of main_call0_call0_call0_v143 : StableHlo.TRef sig ⟨S128x100000, .i32⟩) (broadcastInDim S128x100000 ![] bcast_S_S128x100000)
  :: StableHlo.TRef.binary (.of main_call0_call0_call0_v141 : StableHlo.TRef sig ⟨S128x100000, .i32⟩) (.of main_call0_call0_call0_v143 : StableHlo.TRef sig ⟨S128x100000, .i32⟩) (.of main_call0_call0_call0_v144 : StableHlo.TRef sig ⟨S128x100000, .i32⟩) Host.shli
  :: StableHlo.TRef.nullary (.of main_call0_call0_call0_c_37 : StableHlo.TRef sig ⟨S_, .i32⟩) (constantI S_ 32 19#32)
  :: StableHlo.TRef.unary (.of main_call0_call0_call0_c_37 : StableHlo.TRef sig ⟨S_, .i32⟩) (.of main_call0_call0_call0_v145 : StableHlo.TRef sig ⟨S128x100000, .i32⟩) (broadcastInDim S128x100000 ![] bcast_S_S128x100000)
  :: StableHlo.TRef.binary (.of main_call0_call0_call0_v141 : StableHlo.TRef sig ⟨S128x100000, .i32⟩) (.of main_call0_call0_call0_v145 : StableHlo.TRef sig ⟨S128x100000, .i32⟩) (.of main_call0_call0_call0_v146 : StableHlo.TRef sig ⟨S128x100000, .i32⟩) Host.shrui
  :: StableHlo.TRef.binary (.of main_call0_call0_call0_v144 : StableHlo.TRef sig ⟨S128x100000, .i32⟩) (.of main_call0_call0_call0_v146 : StableHlo.TRef sig ⟨S128x100000, .i32⟩) (.of main_call0_call0_call0_v147 : StableHlo.TRef sig ⟨S128x100000, .i32⟩) ori
  :: StableHlo.TRef.binary (.of main_call0_call0_call0_v142 : StableHlo.TRef sig ⟨S128x100000, .i32⟩) (.of main_call0_call0_call0_v147 : StableHlo.TRef sig ⟨S128x100000, .i32⟩) (.of main_call0_call0_call0_v148 : StableHlo.TRef sig ⟨S128x100000, .i32⟩) xori
  :: StableHlo.TRef.binary (.of main_call0_call0_call0_v142 : StableHlo.TRef sig ⟨S128x100000, .i32⟩) (.of main_call0_call0_call0_v148 : StableHlo.TRef sig ⟨S128x100000, .i32⟩) (.of main_call0_call0_call0_v149 : StableHlo.TRef sig ⟨S128x100000, .i32⟩) addi
  :: StableHlo.TRef.nullary (.of main_call0_call0_call0_c_38 : StableHlo.TRef sig ⟨S_, .i32⟩) (constantI S_ 32 15#32)
  :: StableHlo.TRef.unary (.of main_call0_call0_call0_c_38 : StableHlo.TRef sig ⟨S_, .i32⟩) (.of main_call0_call0_call0_v150 : StableHlo.TRef sig ⟨S128x100000, .i32⟩) (broadcastInDim S128x100000 ![] bcast_S_S128x100000)
  :: StableHlo.TRef.binary (.of main_call0_call0_call0_v148 : StableHlo.TRef sig ⟨S128x100000, .i32⟩) (.of main_call0_call0_call0_v150 : StableHlo.TRef sig ⟨S128x100000, .i32⟩) (.of main_call0_call0_call0_v151 : StableHlo.TRef sig ⟨S128x100000, .i32⟩) Host.shli
  :: StableHlo.TRef.nullary (.of main_call0_call0_call0_c_39 : StableHlo.TRef sig ⟨S_, .i32⟩) (constantI S_ 32 17#32)
  :: StableHlo.TRef.unary (.of main_call0_call0_call0_c_39 : StableHlo.TRef sig ⟨S_, .i32⟩) (.of main_call0_call0_call0_v152 : StableHlo.TRef sig ⟨S128x100000, .i32⟩) (broadcastInDim S128x100000 ![] bcast_S_S128x100000)
  :: StableHlo.TRef.binary (.of main_call0_call0_call0_v148 : StableHlo.TRef sig ⟨S128x100000, .i32⟩) (.of main_call0_call0_call0_v152 : StableHlo.TRef sig ⟨S128x100000, .i32⟩) (.of main_call0_call0_call0_v153 : StableHlo.TRef sig ⟨S128x100000, .i32⟩) Host.shrui
  :: StableHlo.TRef.binary (.of main_call0_call0_call0_v151 : StableHlo.TRef sig ⟨S128x100000, .i32⟩) (.of main_call0_call0_call0_v153 : StableHlo.TRef sig ⟨S128x100000, .i32⟩) (.of main_call0_call0_call0_v154 : StableHlo.TRef sig ⟨S128x100000, .i32⟩) ori
  :: StableHlo.TRef.binary (.of main_call0_call0_call0_v149 : StableHlo.TRef sig ⟨S128x100000, .i32⟩) (.of main_call0_call0_call0_v154 : StableHlo.TRef sig ⟨S128x100000, .i32⟩) (.of main_call0_call0_call0_v155 : StableHlo.TRef sig ⟨S128x100000, .i32⟩) xori
  :: StableHlo.TRef.binary (.of main_call0_call0_call0_v149 : StableHlo.TRef sig ⟨S128x100000, .i32⟩) (.of main_call0_call0_call0_v155 : StableHlo.TRef sig ⟨S128x100000, .i32⟩) (.of main_call0_call0_call0_v156 : StableHlo.TRef sig ⟨S128x100000, .i32⟩) addi
  :: StableHlo.TRef.nullary (.of main_call0_call0_call0_c_40 : StableHlo.TRef sig ⟨S_, .i32⟩) (constantI S_ 32 26#32)
  :: StableHlo.TRef.unary (.of main_call0_call0_call0_c_40 : StableHlo.TRef sig ⟨S_, .i32⟩) (.of main_call0_call0_call0_v157 : StableHlo.TRef sig ⟨S128x100000, .i32⟩) (broadcastInDim S128x100000 ![] bcast_S_S128x100000)
  :: StableHlo.TRef.binary (.of main_call0_call0_call0_v155 : StableHlo.TRef sig ⟨S128x100000, .i32⟩) (.of main_call0_call0_call0_v157 : StableHlo.TRef sig ⟨S128x100000, .i32⟩) (.of main_call0_call0_call0_v158 : StableHlo.TRef sig ⟨S128x100000, .i32⟩) Host.shli
  :: StableHlo.TRef.nullary (.of main_call0_call0_call0_c_41 : StableHlo.TRef sig ⟨S_, .i32⟩) (constantI S_ 32 6#32)
  :: StableHlo.TRef.unary (.of main_call0_call0_call0_c_41 : StableHlo.TRef sig ⟨S_, .i32⟩) (.of main_call0_call0_call0_v159 : StableHlo.TRef sig ⟨S128x100000, .i32⟩) (broadcastInDim S128x100000 ![] bcast_S_S128x100000)
  :: StableHlo.TRef.binary (.of main_call0_call0_call0_v155 : StableHlo.TRef sig ⟨S128x100000, .i32⟩) (.of main_call0_call0_call0_v159 : StableHlo.TRef sig ⟨S128x100000, .i32⟩) (.of main_call0_call0_call0_v160 : StableHlo.TRef sig ⟨S128x100000, .i32⟩) Host.shrui
  :: StableHlo.TRef.binary (.of main_call0_call0_call0_v158 : StableHlo.TRef sig ⟨S128x100000, .i32⟩) (.of main_call0_call0_call0_v160 : StableHlo.TRef sig ⟨S128x100000, .i32⟩) (.of main_call0_call0_call0_v161 : StableHlo.TRef sig ⟨S128x100000, .i32⟩) ori
  :: StableHlo.TRef.binary (.of main_call0_call0_call0_v156 : StableHlo.TRef sig ⟨S128x100000, .i32⟩) (.of main_call0_call0_call0_v161 : StableHlo.TRef sig ⟨S128x100000, .i32⟩) (.of main_call0_call0_call0_v162 : StableHlo.TRef sig ⟨S128x100000, .i32⟩) xori
  :: StableHlo.TRef.binary (.of main_call0_call0_call0_v156 : StableHlo.TRef sig ⟨S128x100000, .i32⟩) (.of main_call0_call0_call0_v162 : StableHlo.TRef sig ⟨S128x100000, .i32⟩) (.of main_call0_call0_call0_v163 : StableHlo.TRef sig ⟨S128x100000, .i32⟩) addi
  :: StableHlo.TRef.nullary (.of main_call0_call0_call0_c_42 : StableHlo.TRef sig ⟨S_, .i32⟩) (constantI S_ 32 6#32)
  :: StableHlo.TRef.unary (.of main_call0_call0_call0_c_42 : StableHlo.TRef sig ⟨S_, .i32⟩) (.of main_call0_call0_call0_v164 : StableHlo.TRef sig ⟨S128x100000, .i32⟩) (broadcastInDim S128x100000 ![] bcast_S_S128x100000)
  :: StableHlo.TRef.binary (.of main_call0_call0_call0_v162 : StableHlo.TRef sig ⟨S128x100000, .i32⟩) (.of main_call0_call0_call0_v164 : StableHlo.TRef sig ⟨S128x100000, .i32⟩) (.of main_call0_call0_call0_v165 : StableHlo.TRef sig ⟨S128x100000, .i32⟩) Host.shli
  :: StableHlo.TRef.nullary (.of main_call0_call0_call0_c_43 : StableHlo.TRef sig ⟨S_, .i32⟩) (constantI S_ 32 26#32)
  :: StableHlo.TRef.unary (.of main_call0_call0_call0_c_43 : StableHlo.TRef sig ⟨S_, .i32⟩) (.of main_call0_call0_call0_v166 : StableHlo.TRef sig ⟨S128x100000, .i32⟩) (broadcastInDim S128x100000 ![] bcast_S_S128x100000)
  :: StableHlo.TRef.binary (.of main_call0_call0_call0_v162 : StableHlo.TRef sig ⟨S128x100000, .i32⟩) (.of main_call0_call0_call0_v166 : StableHlo.TRef sig ⟨S128x100000, .i32⟩) (.of main_call0_call0_call0_v167 : StableHlo.TRef sig ⟨S128x100000, .i32⟩) Host.shrui
  :: StableHlo.TRef.binary (.of main_call0_call0_call0_v165 : StableHlo.TRef sig ⟨S128x100000, .i32⟩) (.of main_call0_call0_call0_v167 : StableHlo.TRef sig ⟨S128x100000, .i32⟩) (.of main_call0_call0_call0_v168 : StableHlo.TRef sig ⟨S128x100000, .i32⟩) ori
  :: StableHlo.TRef.binary (.of main_call0_call0_call0_v163 : StableHlo.TRef sig ⟨S128x100000, .i32⟩) (.of main_call0_call0_call0_v168 : StableHlo.TRef sig ⟨S128x100000, .i32⟩) (.of main_call0_call0_call0_v169 : StableHlo.TRef sig ⟨S128x100000, .i32⟩) xori
  :: StableHlo.TRef.unary (.of main_call0_call0_call0_v1 : StableHlo.TRef sig ⟨S_, .i32⟩) (.of main_call0_call0_call0_v170 : StableHlo.TRef sig ⟨S128x100000, .i32⟩) (broadcastInDim S128x100000 ![] bcast_S_S128x100000)
  :: StableHlo.TRef.binary (.of main_call0_call0_call0_v163 : StableHlo.TRef sig ⟨S128x100000, .i32⟩) (.of main_call0_call0_call0_v170 : StableHlo.TRef sig ⟨S128x100000, .i32⟩) (.of main_call0_call0_v18_0 : StableHlo.TRef sig ⟨S128x100000, .i32⟩) addi
  :: StableHlo.TRef.unary (.of main_call0_call0_v4 : StableHlo.TRef sig ⟨S_, .i32⟩) (.of main_call0_call0_call0_v172 : StableHlo.TRef sig ⟨S128x100000, .i32⟩) (broadcastInDim S128x100000 ![] bcast_S_S128x100000)
  :: StableHlo.TRef.binary (.of main_call0_call0_call0_v169 : StableHlo.TRef sig ⟨S128x100000, .i32⟩) (.of main_call0_call0_call0_v172 : StableHlo.TRef sig ⟨S128x100000, .i32⟩) (.of main_call0_call0_call0_v173 : StableHlo.TRef sig ⟨S128x100000, .i32⟩) addi
  :: StableHlo.TRef.nullary (.of main_call0_call0_call0_c_44 : StableHlo.TRef sig ⟨S_, .i32⟩) (constantI S_ 32 5#32)
  :: StableHlo.TRef.unary (.of main_call0_call0_call0_c_44 : StableHlo.TRef sig ⟨S_, .i32⟩) (.of main_call0_call0_call0_v174 : StableHlo.TRef sig ⟨S128x100000, .i32⟩) (broadcastInDim S128x100000 ![] bcast_S_S128x100000)
  :: StableHlo.TRef.binary (.of main_call0_call0_call0_v173 : StableHlo.TRef sig ⟨S128x100000, .i32⟩) (.of main_call0_call0_call0_v174 : StableHlo.TRef sig ⟨S128x100000, .i32⟩) (.of main_call0_call0_v18_1 : StableHlo.TRef sig ⟨S128x100000, .i32⟩) addi
  :: StableHlo.TRef.binary main_call0_call0_call0.v171 main_call0_call0_call0.v175 (.of main_call0_call0_v19 : StableHlo.TRef sig ⟨S128x100000, .i32⟩) xori
  :: StableHlo.TRef.nullary (.of main_call0_call0_c_2 : StableHlo.TRef sig ⟨S_, .i32⟩) (constantI S_ 32 9#32)
  :: StableHlo.TRef.unary (.of main_call0_call0_c_2 : StableHlo.TRef sig ⟨S_, .i32⟩) (.of main_call0_call0_v20 : StableHlo.TRef sig ⟨S128x100000, .i32⟩) (broadcastInDim S128x100000 ![] bcast_S_S128x100000)
  :: StableHlo.TRef.binary (.of main_call0_call0_v19 : StableHlo.TRef sig ⟨S128x100000, .i32⟩) (.of main_call0_call0_v20 : StableHlo.TRef sig ⟨S128x100000, .i32⟩) (.of main_call0_call0_v21 : StableHlo.TRef sig ⟨S128x100000, .i32⟩) Host.shrui
  :: StableHlo.TRef.nullary (.of main_call0_call0_c_3 : StableHlo.TRef sig ⟨S_, .i32⟩) (constantI S_ 32 1065353216#32)
  :: StableHlo.TRef.unary (.of main_call0_call0_c_3 : StableHlo.TRef sig ⟨S_, .i32⟩) (.of main_call0_call0_v22 : StableHlo.TRef sig ⟨S128x100000, .i32⟩) (broadcastInDim S128x100000 ![] bcast_S_S128x100000)
  :: StableHlo.TRef.binary (.of main_call0_call0_v21 : StableHlo.TRef sig ⟨S128x100000, .i32⟩) (.of main_call0_call0_v22 : StableHlo.TRef sig ⟨S128x100000, .i32⟩) (.of main_call0_call0_v23 : StableHlo.TRef sig ⟨S128x100000, .i32⟩) ori
  :: StableHlo.TRef.unary (.of main_call0_call0_v23 : StableHlo.TRef sig ⟨S128x100000, .i32⟩) (.of main_call0_call0_v24 : StableHlo.TRef sig ⟨S128x100000, .f32⟩) (bitcastToFloat .f32)
  :: StableHlo.TRef.nullary (.of main_call0_call0_cst : StableHlo.TRef sig ⟨S_, .f32⟩) (constant S_ .f32 0x3F800000#32)
  :: StableHlo.TRef.unary (.of main_call0_call0_cst : StableHlo.TRef sig ⟨S_, .f32⟩) (.of main_call0_call0_v25 : StableHlo.TRef sig ⟨S128x100000, .f32⟩) (broadcastInDim S128x100000 ![] bcast_S_S128x100000)
  :: StableHlo.TRef.binary (.of main_call0_call0_v24 : StableHlo.TRef sig ⟨S128x100000, .f32⟩) (.of main_call0_call0_v25 : StableHlo.TRef sig ⟨S128x100000, .f32⟩) (.of main_call0_call0_v26 : StableHlo.TRef sig ⟨S128x100000, .f32⟩) subf
  :: StableHlo.TRef.binary (.of main_call0_call0_v2 : StableHlo.TRef sig ⟨S1x1, .f32⟩) (.of main_call0_call0_v1 : StableHlo.TRef sig ⟨S1x1, .f32⟩) (.of main_call0_call0_v27 : StableHlo.TRef sig ⟨S1x1, .f32⟩) subf
  :: StableHlo.TRef.unary (.of main_call0_call0_v27 : StableHlo.TRef sig ⟨S1x1, .f32⟩) (.of main_call0_call0_v28 : StableHlo.TRef sig ⟨S128x100000, .f32⟩) (broadcastInDim S128x100000 ![0, 1] bcast_S1x1_S128x100000_0_1)
  :: StableHlo.TRef.binary (.of main_call0_call0_v26 : StableHlo.TRef sig ⟨S128x100000, .f32⟩) (.of main_call0_call0_v28 : StableHlo.TRef sig ⟨S128x100000, .f32⟩) (.of main_call0_call0_v29 : StableHlo.TRef sig ⟨S128x100000, .f32⟩) mulf
  :: StableHlo.TRef.unary (.of main_call0_call0_v1 : StableHlo.TRef sig ⟨S1x1, .f32⟩) (.of main_call0_call0_v30 : StableHlo.TRef sig ⟨S128x100000, .f32⟩) (broadcastInDim S128x100000 ![0, 1] bcast_S1x1_S128x100000_0_1)
  :: StableHlo.TRef.binary (.of main_call0_call0_v29 : StableHlo.TRef sig ⟨S128x100000, .f32⟩) (.of main_call0_call0_v30 : StableHlo.TRef sig ⟨S128x100000, .f32⟩) (.of main_call0_call0_v31 : StableHlo.TRef sig ⟨S128x100000, .f32⟩) addf
  :: StableHlo.TRef.unary (.of main_call0_call0_v1 : StableHlo.TRef sig ⟨S1x1, .f32⟩) (.of main_call0_call0_v32 : StableHlo.TRef sig ⟨S128x100000, .f32⟩) (broadcastInDim S128x100000 ![0, 1] bcast_S1x1_S128x100000_0_1)
  :: StableHlo.TRef.binary (.of main_call0_call0_v32 : StableHlo.TRef sig ⟨S128x100000, .f32⟩) (.of main_call0_call0_v31 : StableHlo.TRef sig ⟨S128x100000, .f32⟩) (.of main_call0_v0 : StableHlo.TRef sig ⟨S128x100000, .f32⟩) maximumf
  :: StableHlo.TRef.unary main_call0_call0.v33 (.of main_call0_v1 : StableHlo.TRef sig ⟨S128x100000, .f32⟩) Host.log
  :: StableHlo.TRef.unary (.of main_call0_v1 : StableHlo.TRef sig ⟨S128x100000, .f32⟩) (.of main_call0_v2 : StableHlo.TRef sig ⟨S128x100000, .f32⟩) Host.negf
  :: StableHlo.TRef.unary (.of main_call0_v2 : StableHlo.TRef sig ⟨S128x100000, .f32⟩) (.of main_call0_v3 : StableHlo.TRef sig ⟨S128x100000, .f32⟩) Host.log
  :: StableHlo.TRef.unary (.of main_call0_v3 : StableHlo.TRef sig ⟨S128x100000, .f32⟩) (.of main_v25 : StableHlo.TRef sig ⟨S128x100000, .f32⟩) Host.negf
  :: [] )

/-- The sum with the noise, its argmax by rows, and the result's column. -/
abbrev opsC : List (HloOp τ sig (Elt F)) :=
  [ StableHlo.binary main_v25 main_v24 main_v26 (addf : (⟨S128x100000, .f32⟩ : BufTy).Contents (Elt F) → (⟨S128x100000, .f32⟩ : BufTy).Contents (Elt F) → (⟨S128x100000, .f32⟩ : BufTy).Contents (Elt F)),
    StableHlo.TRef.nullary (.of main_call1_v0 : StableHlo.TRef sig ⟨S128x100000, .i32⟩) (iotaInDim S128x100000 32 1),
    StableHlo.TRef.nullary (.of main_call1_cst : StableHlo.TRef sig ⟨S_, .f32⟩) (constant S_ .f32 0xFF800000#32),
    StableHlo.TRef.nullary (.of main_call1_c : StableHlo.TRef sig ⟨S_, .i32⟩) (constantI S_ 32 0#32),
    StableHlo.TRef.quaternary (.of main_v26 : StableHlo.TRef sig ⟨S128x100000, .f32⟩) (.of main_call1_v0 : StableHlo.TRef sig ⟨S128x100000, .i32⟩) (.of main_call1_cst : StableHlo.TRef sig ⟨S_, .f32⟩) (.of main_call1_c : StableHlo.TRef sig ⟨S_, .i32⟩) (.of main_call1_v1_0 : StableHlo.TRef sig ⟨S128, .f32⟩)
      (fun x y u v j => (Host.argReduce reducer_argmax_f32_i32 x y u v reducesTo_S128x100000_S128_d1 h_S_ j).1),
    StableHlo.TRef.quaternary (.of main_v26 : StableHlo.TRef sig ⟨S128x100000, .f32⟩) (.of main_call1_v0 : StableHlo.TRef sig ⟨S128x100000, .i32⟩) (.of main_call1_cst : StableHlo.TRef sig ⟨S_, .f32⟩) (.of main_call1_c : StableHlo.TRef sig ⟨S_, .i32⟩) (.of main_v27 : StableHlo.TRef sig ⟨S128, .i32⟩)
      (fun x y u v j => (Host.argReduce reducer_argmax_f32_i32 x y u v reducesTo_S128x100000_S128_d1 h_S_ j).2),
    StableHlo.unary main_v27 main_v28 (broadcastInDim S128x1 ![0] bcast_S128_S128x1_0 : (⟨S128, .i32⟩ : BufTy).Contents (Elt F) → (⟨S128x1, .i32⟩ : BufTy).Contents (Elt F)) ]

end Cert.RefOps

end
-- ==== Proof.MaskFacts.lean ====
/-
  The shape facts of the mask's printed function: each is decided.
-/
module

public import proofs.«01_k».proof.On_clear_winner

@[expose] public section

set_option maxRecDepth 16384

namespace Cert.MaskFacts

open Cert.On_clear_winner Idealize.ShloMosaic

/-- The mask's stated shape relations hold. -/
instance facts : Cert.On_clear_winner.Facts where
  bcast_S100000_S1x100000_1 := by decide
  bcast_S1x100000_S128x100000_0_1 := by decide
  bcast_S_S1 := by decide
  concatenates_S1_S1_S2_d0 := by decide
  bcast_S_S1x1 := by decide
  slices_S2_S1_0 := by decide
  shapeCasts_S1_S_ := by decide
  slices_S2_S1_1 := by decide
  bcast_S_S128x100000 := by decide
  natLt_32_64 := by decide
  bcast_S1x1_S128x100000_0_1 := by decide
  reducesTo_S128x100000_S128_d1 := by decide
  h_S_ := by decide
  bcast_S128_S128x1_0 := by decide
  bcast_S128x1_S128x100000_0_1 := by decide
  bcast_S_S128 := by decide
  dot_S128x1024_S1024x100000_S128x100000_1_0_0_1_n_n_wf := by decide

end Cert.MaskFacts
-- ==== Proof.Terms.lean ====
/-
  The arrays both programs are about, named once: the logits, the generator's key, the noise, the scores the kernel
  maximises, and the scores the reference maximises.
-/
module

public import proofs.«01_k».proof.Proof.MaskFacts

@[expose] public section

noncomputable section

namespace Cert.Terms

open Cert.On_clear_winner Cert.On_clear_winner.Facts
open Idealize.ShloMosaic

variable {F : FTy → Type} [FloatOps F]

/-- The logits: `x @ W + b`. -/
def logits (X : FVec F S128x1024 .f32) (W : FVec F S1024x100000 .f32) (b : FVec F S100000 .f32) : FVec F S128x100000 .f32 :=
  addf (Host.dotGeneral dot_S128x1024_S1024x100000_S128x100000_1_0_0_1_n_n none X W)
    (broadcastInDim S128x100000 ![0, 1] bcast_S1x100000_S128x100000_0_1 (broadcastInDim S1x100000 ![1] bcast_S100000_S1x100000_1 b))

/-- The generator's key, made from the seed 42. -/
def key : IVec S2 32 :=
  concatenate S2 0 [⟨S1, broadcastInDim S1 ![] bcast_S_S1 (id (Host.shrui (constantI S_ 32 42#32) (constantI S_ 32 32#32)))⟩,
    ⟨S1, broadcastInDim S1 ![] bcast_S_S1 (id (andi (constantI S_ 32 42#32) (constantI S_ 32 4294967295#32)))⟩] concatenates_S1_S1_S2_d0

/-- The Gumbel noise of the seed. -/
def noise : FVec F S128x100000 .f32 := fn_gumbel (F := F) key

/-- The scores the kernel maximises: the logits plus the noise. -/
def scores (X : FVec F S128x1024 .f32) (W : FVec F S1024x100000 .f32) (b : FVec F S100000 .f32) : FVec F S128x100000 .f32 :=
  addf (logits X W b) noise

/-- The largest entry of each row, from −∞. -/
def rowMax (L : FVec F S128x100000 .f32) : FVec F S128 .f32 :=
  Host.reduce FloatOps.maximumf L (constant S_ .f32 0xFF800000#32) reducesTo_S128x100000_S128_d1 h_S_

/-- A row's value at each of its columns. -/
def spread {α : Type} (v : S128.Idx → α) : S128x100000.Idx → α :=
  broadcastInDim S128x100000 ![0, 1] bcast_S128x1_S128x100000_0_1 (broadcastInDim S128x1 ![0] bcast_S128_S128x1_0 v)

/-- The exponentials of the logits less their row's maximum. -/
def exps (L : FVec F S128x100000 .f32) : FVec F S128x100000 .f32 :=
  Host.exp (subf L (spread (maximumf (broadcastInDim S128 ![] bcast_S_S128 (constant S_ .f32 0xFF800000#32)) (rowMax L))))

/-- The sum of each row. -/
def rowSum (E : FVec F S128x100000 .f32) : FVec F S128 .f32 :=
  Host.reduceAdd E (constant S_ .f32 0x00000000#32) reducesTo_S128x100000_S128_d1 h_S_

/-- The scores the reference maximises: the noise plus the logarithm of the shifted softmax. -/
def refScores (L : FVec F S128x100000 .f32) : FVec F S128x100000 .f32 :=
  addf noise (Host.log (addf (Host.divf (exps L) (spread (rowSum (exps L))))
    (broadcastInDim S128x100000 ![] bcast_S_S128x100000 (constant S_ .f32 0x1E3CE508#32))))

/-- The reference's result: each row's first index of the largest of its scores. -/
def refOut (X : FVec F S128x1024 .f32) (W : FVec F S1024x100000 .f32) (b : FVec F S100000 .f32) : IVec S128x1 32 :=
  broadcastInDim S128x1 ![0] bcast_S128_S128x1_0 (fn_argmax (F := F) (refScores (logits X W b)))

end Cert.Terms

end
-- ==== Proof.RefRun.lean ====
/-
  The reference's run: @main is its straight line of operations, so every buffer ends at what the line computes; the
  result's buffer then holds `Terms.refOut` of the arguments, the arguments what they held.
-/
module

public import proofs.«01_k».proof.Proof.RefOps
public import proofs.«01_k».proof.Proof.Terms
public import Idealize.ShloMosaic.Lib.Pipeline.Frame

@[expose] public section

set_option maxRecDepth 16384

noncomputable section

namespace Cert.RefRun

open Cert.ReferenceIdeal Cert.ReferenceIdeal.Gen Cert.RefOps
open Idealize.ShloMosaic Idealize.ShloMosaic.TcCoe Idealize.ShloMosaic.StableHlo

variable {F : FTy → Type} [FloatOps F]

set_option maxHeartbeats 40000000 in
/-- @main is the line. -/
theorem main_eq (c : Dev nD) : main (F := F) c = StableHlo.seq (opsA ++ opsB ++ opsC) := by
  chain_rfl

set_option maxHeartbeats 4000000 in
/-- Every operation of the line touches TensorCore references only. -/
theorem ops_sub : (opsA ++ opsB ++ opsC : List (HloOp τ sig (Elt F))).Forall fun op => op.bufs ⊆ tcRefs τ sig := by
  rw [List.forall_append, List.forall_append]
  refine ⟨⟨?_, ?_⟩, ?_⟩ <;>
  · simp only [List.Forall, TRef.nullary, TRef.unary, TRef.binary, TRef.ternary, TRef.quaternary, TRef.reshape]
    repeat' apply And.intro
    all_goals with_reducible
      first | exact nullary_bufs_sub .. | exact unary_bufs_sub .. | exact binary_bufs_sub .. | exact ternary_bufs_sub .. | exact quaternary_bufs_sub .. | exact reshape_bufs_sub ..

set_option maxHeartbeats 4000000 in
/-- Every operation of the line determines what it writes. -/
theorem ops_fresh : (opsA ++ opsB ++ opsC : List (HloOp τ sig (Elt F))).Forall fun op => op.fresh = ∅ := by
  rw [List.forall_append, List.forall_append]
  refine ⟨⟨?_, ?_⟩, ?_⟩ <;>
  · simp only [List.Forall]
    repeat' constructor

set_option maxHeartbeats 4000000 in
/-- The line's noise is the mask's. -/
theorem noise_eq (V : Valuation τ sig (Elt F)) :
    after opsB V (Proc.devRef .tc main_v25) = On_clear_winner.fn_gumbel (F := F) (V (Proc.devRef .tc main_v21)) := by
  after_reads_simp
  simp only [On_clear_winner.fn_gumbel, On_clear_winner.fn_uniform, On_clear_winner.fn_uniform_part1, On_clear_winner.fn_threefry2x32,
    On_clear_winner.fn_threefry2x32_part1, On_clear_winner.fn_threefry2x32_part2, On_clear_winner.fn_threefry2x32_part3,
    On_clear_winner.fn_threefry2x32_part4, On_clear_winner.fn_threefry2x32_part5, On_clear_winner.fn_threefry2x32_part6,
    On_clear_winner.fn_threefry2x32_part7, On_clear_winner.fn_threefry2x32_part8, On_clear_winner.fn_threefry2x32_part9]
  chain_rfl

/-- The key before the noise. -/
theorem key_eq (V : Valuation τ sig (Elt F)) : after opsA V (Proc.devRef .tc main_v21) = Terms.key := by
  after_reads_simp
  chain_rfl

/-- The logarithm of the shifted softmax before the noise. -/
theorem log_eq (V : Valuation τ sig (Elt F)) :
    addf Terms.noise (after opsA V (Proc.devRef .tc main_v24)) = Terms.refScores (F := F) (Terms.logits (V (Proc.devRef .tc main_arg0))
      (V (Proc.devRef .tc main_arg1)) (V (Proc.devRef .tc main_arg2))) := by
  after_reads_simp
  chain_rfl

set_option maxHeartbeats 4000000 in
/-- The noise's stretch leaves the logarithm alone. -/
theorem keep_v24 (V : Valuation τ sig (Elt F)) : after opsB V (Proc.devRef .tc main_v24) = V (Proc.devRef .tc main_v24) := by
  after_reads_simp

/-- The result from the noise and the logarithm. -/
theorem out_eq (V : Valuation τ sig (Elt F)) :
    after opsC V (Proc.devRef .tc main_v28) = broadcastInDim On_clear_winner.S128x1 ![0] On_clear_winner.Facts.bcast_S128_S128x1_0
      (On_clear_winner.fn_argmax (F := F) (addf (V (Proc.devRef .tc main_v25)) (V (Proc.devRef .tc main_v24)))) := by
  after_reads_simp
  chain_rfl

set_option maxHeartbeats 4000000 in
/-- The line leaves the first argument alone. -/
theorem arg0_eq (V : Valuation τ sig (Elt F)) : after (opsA ++ opsB ++ opsC) V (Proc.devRef .tc main_arg0) = V (Proc.devRef .tc main_arg0) := by
  rw [after_append, after_append]; after_reads_simp

set_option maxHeartbeats 4000000 in
/-- The line leaves the second argument alone. -/
theorem arg1_eq (V : Valuation τ sig (Elt F)) : after (opsA ++ opsB ++ opsC) V (Proc.devRef .tc main_arg1) = V (Proc.devRef .tc main_arg1) := by
  rw [after_append, after_append]; after_reads_simp

set_option maxHeartbeats 4000000 in
/-- The line leaves the third argument alone. -/
theorem arg2_eq (V : Valuation τ sig (Elt F)) : after (opsA ++ opsB ++ opsC) V (Proc.devRef .tc main_arg2) = V (Proc.devRef .tc main_arg2) := by
  rw [after_append, after_append]; after_reads_simp

/-- The whole line's result. -/
theorem result_eq (V : Valuation τ sig (Elt F)) : after (opsA ++ opsB ++ opsC) V (Proc.devRef .tc main_v28)
    = Terms.refOut (F := F) (V (Proc.devRef .tc main_arg0)) (V (Proc.devRef .tc main_arg1)) (V (Proc.devRef .tc main_arg2)) := by
  rw [after_append, after_append, out_eq, noise_eq, key_eq, keep_v24]
  refine Eq.trans (b := broadcastInDim On_clear_winner.S128x1 ![0] On_clear_winner.Facts.bcast_S128_S128x1_0
      (On_clear_winner.fn_argmax (F := F) (addf Terms.noise (after opsA V (Proc.devRef .tc main_v24))))) ?_ ?_
  · chain_rfl
  · rw [log_eq]
    unfold Terms.refOut
    rfl

/-- Every execution of the reference terminates with its result at `Terms.refOut` of the arguments, the arguments
    unchanged and every semaphore at zero. -/
theorem run (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v28) = Terms.refOut (F := F) (m ((c.tc : Thread nD τ).loc main_arg0))
          (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun r h => ⟨fun c => ⟨(h c main_v28).trans (result_eq _), (h c main_arg0).trans (arg0_eq _),
      (h c main_arg1).trans (arg1_eq _), (h c main_arg2).trans (arg2_eq _)⟩, sem_eq_zero_of_no_sems (by decide) r.2⟩)
    (run_seq (by decide) (by decide) defs main (fun _ => opsA ++ opsB ++ opsC) main_eq (fun _ => ops_sub) m ρ
      (fun _ op h => List.forall_iff_forall_mem.mp ops_fresh op h))

end Cert.RefRun

end
-- ==== Proof.ValueRun.lean ====
/-
  The kernel's run with its result, at any reading of the floats: whatever property of the two running buffers every grid
  step preserves, and that fixes the running index after the last step, fixes the result array.
-/
module

public import proofs.«01_k».proof.Proof.FrameRun
public import Idealize.ShloMosaic.Lib.Pipeline.Value
public import Idealize.ShloMosaic.Lib.StableHlo.RunRead

@[expose] public section

set_option maxRecDepth 16384

noncomputable section

namespace Cert.ValueRun

open Cert.KernelIdeal Cert.KernelIdeal.Gen Cert.Body Cert.FrameRun
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- `Q`: what is tracked of the running buffers, by device and number of steps done
variable (Q : Dev nD → ℕ → (S1x128.Idx → Elt F .f32) → (S1x128.Idx → Elt F .i32) → Prop)
-- `G`: what the running index is once every step is done
variable (G : Dev nD → S1x128.Idx → Elt F .i32)

/-- The invariant between steps: the two running buffers at contents the tracked property holds of. -/
def Φt (c : Dev nD) (t : Fin (cfg0.N + 1)) : sProp 𝕄 :=
  iprop((∃ B : S1x128.Idx → Elt F .f32, ∃ I : S1x128.Idx → Elt F .i32, ⌜Q c t.val B I⌝ ∗ (((c : Thread nD τ).loc cc0_scratch0) ↦{fullShare} B)
    ∗ (((c : Thread nD τ).loc cc0_scratch1) ↦{fullShare} I)) ∗ ∃ r, prngReg c r)

/-- The proof data of the value run. -/
def datv (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wblk m c t zf
    | ⟨2, _⟩ => bblk m c t zf
    | ⟨3, _⟩ => gblk m c t zf
    | ⟨4, _⟩ => G c
  Φ t := Φt Q c t
  q _ := fullShare
  owed _ := 0

theorem before_0 (c : Dev nD) (t : Fin cfg0.N) (d) : (datv m Q G 0 c).before (0 : Fin 5) t d = iblk m c 0 t :=
  before0_0_of m (datv m Q G 0 c) rfl (fun _ => rfl) t d
theorem before_1 (c : Dev nD) (t : Fin cfg0.N) (d) : (datv m Q G 0 c).before (1 : Fin 5) t d = wblk m c t d := by
  unfold Dat.before; rw [if_pos (fetch0_1 t)]; rfl
theorem before_2 (c : Dev nD) (t : Fin cfg0.N) (d) : (datv m Q G 0 c).before (2 : Fin 5) t d = bblk m c t d := by
  unfold Dat.before; rw [if_pos (fetch0_2 t)]; rfl
theorem before_3 (c : Dev nD) (t : Fin cfg0.N) (d) : (datv m Q G 0 c).before (3 : Fin 5) t d = gblk m c t d := by
  unfold Dat.before; rw [if_pos (fetch0_3 t)]; rfl

/-- The last step is the one that copies the index out. -/
theorem last_iff : ∀ t : Fin cfg0.N, k0_cond3 (grid0.coords t) = 1#1 ↔ t.val = 48 := by decide

set_option maxHeartbeats 1000000 in
/-- One grid step keeps the invariant. -/
theorem body_obligation
    (hQ : ∀ c (t : Fin cfg0.N) d1 d2 d3 B I, Q c t.val B I →
      Q c (t.val + 1) (newB (grid0.coords t) (iblk m c 0 t) (wblk m c t d1) (bblk m c t d2) (gblk m c t d3) B)
        (newI (grid0.coords t) (iblk m c 0 t) (wblk m c t d1) (bblk m c t d2) (gblk m c t d3) B I))
    (hG : ∀ c B I, Q c 49 B I → I = G c)
    (c : Dev nD) : BodyObligationLoose (datv m Q G 0 c) (defs₀ (F := F)) 𝒱₀ () Set.univ := fun t => by
  rw [bigSep_W0, bigSep_W0]
  rw [show (datv m Q G 0 c).Φ t.succ = Φt Q c t.succ from rfl, show (datv m Q G 0 c).Φ t.castSucc = Φt Q c t.castSucc from rfl,
    show (datv m Q G 0 c).owesAt () t.succ = (datv m Q G 0 c).owesAt () t.castSucc from rfl]
  unfold Φt
  iintro ⟨⟨⟨%B, %I, %hq, HB, HI⟩, Hp⟩, Ho, ⟨%d0, H0⟩, ⟨%d1, H1⟩, ⟨%d2, H2⟩, ⟨%d3, H3⟩, ⟨%d4, H4⟩⟩
  have hq' := hQ c t d1 d2 d3 B I hq
  rw [before_0 m Q G c t d0, before_1 m Q G c t d1, before_2 m Q G c t d2, before_3 m Q G c t d3]
  iapply (sound_point (F := F) c t (iblk m c 0 t) (wblk m c t d1) (bblk m c t d2) (gblk m c t d3) ((datv m Q G 0 c).before (4 : Fin 5) t d4) B I _)
  isplitl [HB HI H0 H1 H2 H3 H4]
  · isplitl [H0]; · iexact H0
    isplitl [H1]; · iexact H1
    isplitl [H2]; · iexact H2
    isplitl [H3]; · iexact H3
    isplitl [H4]; · iexact H4
    isplitl [HB]; · iexact HB
    iexact HI
  iintro ⟨H0, H1, H2, H3, H4, HB, HI⟩
  isplitl [HB HI Hp]
  · isplitl [HB HI]
    · iexists _; iexists _
      isplitr
      · ipureintro; exact hq'
      isplitl [HB]
      · iexact HB
      · iexact HI
    iexact Hp
  isplitl [Ho]; · iexact Ho
  have h1 : win0_1.cut (grid0.coords t) (wblk m c t zf) = iblk m c 1 t := win0_1.cut_fill _ _ _
  have h2 : win0_2.cut (grid0.coords t) (bblk m c t zf) = iblk m c 2 t := win0_2.cut_fill _ _ _
  have h3 : win0_3.cut (grid0.coords t) (gblk m c t zf) = iblk m c 3 t := win0_3.cut_fill _ _ _
  isplitl [H0]; · iexact H0
  isplitl [H1]
  · iexists d1
    change _ ⊢ owns (c : Thread nD τ) (st0_1 t) fullShare (win0_1.fill (grid0.coords t) d1 (win0_1.cut (grid0.coords t) (wblk m c t zf)))
    rw [h1]; exact BI.Entails.refl _
  isplitl [H2]
  · iexists d2
    change _ ⊢ owns (c : Thread nD τ) (st0_2 t) fullShare (win0_2.fill (grid0.coords t) d2 (win0_2.cut (grid0.coords t) (bblk m c t zf)))
    rw [h2]; exact BI.Entails.refl _
  isplitl [H3]
  · iexists d3
    change _ ⊢ owns (c : Thread nD τ) (st0_3 t) fullShare (win0_3.fill (grid0.coords t) d3 (win0_3.cut (grid0.coords t) (gblk m c t zf)))
    rw [h3]; exact BI.Entails.refl _
  by_cases h4 : t.val = 48
  · have hc : k0_cond3 (grid0.coords t) = 1#1 := (last_iff t).mpr h4
    have hi : cfg0.idle 4 (cfg0.grid.coords t) = false := by
      change (!(k0_cond3 (grid0.coords t) == 1#1)) = false
      rw [hc]; rfl
    have h49 := hq'
    rw [h4] at h49
    rw [hi, if_pos hc, hG c _ _ h49]
    exact BI.Entails.refl _
  · have hc : ¬ k0_cond3 (grid0.coords t) = 1#1 := fun h => h4 ((last_iff t).mp h)
    have hi : cfg0.idle 4 (cfg0.grid.coords t) = true := by
      change (!(k0_cond3 (grid0.coords t) == 1#1)) = true
      simp [hc]
    have hf : (cfg0.win 4).flush t = false := by
      rw [Bool.eq_false_iff, Ne, flush0_4 t]
      have := t.isLt
      have hN : cfg0.N = 49 := rfl
      omega
    rw [hi, hf, if_neg hc]
    iexists d4
    iexact H4

/-- The output's one block is the whole of its array. -/
theorem emb_blk (t : Fin cfg0.N) (y) : ((cfg0.win 4).blk t).view.emb y = y := by
  funext a
  apply Fin.ext
  fin_cases a
  · exact Pipeline.Window.rect_emb_val_of_index_zero win0_4 t 0 rfl y
  · exact Pipeline.Window.rect_emb_val_of_index_zero win0_4 t 1 rfl y

/-- The output's array ends at the running index of the last step. -/
theorem arr_out (c : Dev nD) : (datv m Q G 0 c).arrAt 4 cfg0.N = G c := by
  refine (datv m Q G 0 c).arrAt_eq_of_cover 4 (G c) (fun t ht => ?_) (fun i => ⟨⟨48, by decide⟩, (flush0_4 _).mpr rfl, ?_⟩)
  · funext y
    rw [View.read_apply, emb_blk]
    rfl
  · have h := ((cfg0.win 4).blk ⟨48, by decide⟩).view.emb_mem_set i
    rwa [emb_blk] at h

/-- The host's reshape of the region's result. -/
theorem reshaped (V : Valuation τ sig (Elt F)) : StableHlo.after (List.flatten [hostOps1]) V (Proc.devRef .tc main_v11)
    = shapeCast S128x1 (V (Proc.devRef .tc main_v10)) shapeCasts_S1x128_S128x1 := by
  after_reads_simp
  rfl

/-- What the host's last line leaves in the result's buffer. -/
theorem result_eq (c : Dev nD) : Pipeline.afterTail₀ cfgs (datv m Q G) 0 (V0 m) [hostOps1] c main_v11
    = shapeCast S128x1 (G c) shapeCasts_S1x128_S128x1 := by
  unfold Pipeline.afterTail₀
  rw [reshaped]
  have h := Pipeline.withArrays_arr (τ := τ) spec0 (by decide) c (V0 m c) (fun w => (datv m Q G 0 c).arrAt w cfg0.N) 4
  rw [arr_out] at h
  exact congrArg (fun z => shapeCast S128x1 z shapeCasts_S1x128_S128x1) h

set_option maxHeartbeats 4000000 in
set_option backward.isDefEq.respectTransparency.types false in
/-- The run: @main terminates from any memory with zero counters, the result is the last running index as a column, and the
    arguments end as launched. -/
theorem run
    (hQ₀ : ∀ c B I, Q c 0 B I)
    (hQ : ∀ c (t : Fin cfg0.N) d1 d2 d3 B I, Q c t.val B I →
      Q c (t.val + 1) (newB (grid0.coords t) (iblk m c 0 t) (wblk m c t d1) (bblk m c t d2) (gblk m c t d3) B)
        (newI (grid0.coords t) (iblk m c 0 t) (wblk m c t d1) (bblk m c t d2) (gblk m c t d3) B I))
    (hG : ∀ c B I, Q c 49 B I → I = G c) :
    θ_run defs (onTc (τ := τ) (main (F := F))) ⟨m, fun _ => 0, ρ⟩ (fun r => ∀ c : Dev nD,
      r.2.mem ((c.tc : Thread nD τ).loc main_v11) = shapeCast S128x1 (G c) shapeCasts_S1x128_S128x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_frame_around_track cfgs (datv m Q G) (0 : Fin 1) launch0 defs₀ 𝒱₀ m ρ main
    (hbody := body_obligation m Q G hQ hG)
    (hshare := fun c => (datv m Q G 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl)
    (hin := fun c => by
      change Pipeline.ΦA spec0 c ⊢ Φt Q c 0
      unfold Pipeline.ΦA Φt
      rw [scopedRest0_eq]
      iintro ⟨⟨⟨%B, HB⟩, ⟨%I, HI⟩⟩, Hp⟩
      isplitl [HB HI]
      · iexists B; iexists I
        isplitr
        · ipureintro; exact hQ₀ c B I
        isplitl [HB]
        · iexact HB
        · iexact HI
      iexact Hp)
    (hout := fun c => by
      change Φt Q c (Fin.last cfg0.N) ⊢ Pipeline.ΦA spec0 c
      unfold Pipeline.ΦA Φt
      rw [scopedRest0_eq]
      iintro ⟨⟨%B, %I, %_hq, HB, HI⟩, Hp⟩
      isplitl [HB HI]
      · isplitl [HB]
        · iexists B; iexact HB
        · iexists I; iexact HI
      iexact Hp)
    (Q' := _)
    (hQ' := fun r h c => ⟨
      ((h.1 c).2 main_v11 (Pipeline.mem_restRefs_of main_v11 (by decide) (by decide))).trans (by
        exact result_eq m Q G c),
      ((h.1 c).1 0).trans (((datv m Q G 0 c).arrAt_in 0 rfl _).trans (V_main_arg0 m c)),
      ((h.1 c).1 1).trans (((datv m Q G 0 c).arrAt_in 1 rfl _).trans (V_main_arg1 m c)),
      ((h.1 c).2 main_arg2 (Pipeline.mem_restRefs_of main_arg2 (by decide) (by decide))).trans (W_main_arg2 m (datv m Q G) c)⟩)

end Cert.ValueRun

end
-- ==== Proof.Host.lean ====
/-
  What the kernel's host lines leave before its region: the noise transposed and the bias as a column, in the arrays the
  region's windows cut.
-/
module

public import proofs.«01_k».proof.Proof.Terms
public import proofs.«01_k».proof.Proof.Gen.KernelIdeal.Frame
public import Idealize.ShloMosaic.Lib.StableHlo.RunRead
public import Idealize.ShloMosaic.Lib.Pipeline.Regions

@[expose] public section

set_option maxRecDepth 16384

noncomputable section

namespace Cert.Host

open Cert.KernelIdeal Cert.KernelIdeal.Gen
open Idealize.ShloMosaic Idealize.ShloMosaic.TcCoe Idealize.ShloMosaic.StableHlo

variable {F : FTy → Type} [FloatOps F]

set_option maxHeartbeats 20000000 in
/-- The middle stretch makes the noise from the key. -/
theorem noise_eq (V : Valuation τ sig (Elt F)) :
    after hostOps0_1 V (Proc.devRef .tc main_v7) = On_clear_winner.fn_gumbel (F := F) (V (Proc.devRef .tc main_v6)) := by
  after_reads_simp
  simp only [On_clear_winner.fn_gumbel, On_clear_winner.fn_uniform, On_clear_winner.fn_uniform_part1, On_clear_winner.fn_threefry2x32,
    On_clear_winner.fn_threefry2x32_part1, On_clear_winner.fn_threefry2x32_part2, On_clear_winner.fn_threefry2x32_part3,
    On_clear_winner.fn_threefry2x32_part4, On_clear_winner.fn_threefry2x32_part5, On_clear_winner.fn_threefry2x32_part6,
    On_clear_winner.fn_threefry2x32_part7, On_clear_winner.fn_threefry2x32_part8, On_clear_winner.fn_threefry2x32_part9]
  chain_rfl

/-- The first stretch makes the key. -/
theorem key_eq (V : Valuation τ sig (Elt F)) : after hostOps0 V (Proc.devRef .tc main_v6) = Terms.key := by
  after_reads_simp
  chain_rfl

set_option maxHeartbeats 4000000 in
/-- The first two stretches leave the bias alone. -/
theorem keep_arg2 (V : Valuation τ sig (Elt F)) :
    after hostOps0_1 (after hostOps0 V) (Proc.devRef .tc main_arg2) = V (Proc.devRef .tc main_arg2) := by
  after_reads_simp

/-- The last stretch transposes the noise. -/
theorem transposed (V : Valuation τ sig (Elt F)) : after hostOps0_2 V (Proc.devRef .tc main_v8)
    = transpose S100000x128 [1, 0] (V (Proc.devRef .tc main_v7)) transposes_S128x100000_S100000x128_1_0 := by
  after_reads_simp

/-- The last stretch makes the bias a column. -/
theorem column (V : Valuation τ sig (Elt F)) : after hostOps0_2 V (Proc.devRef .tc main_v9)
    = shapeCast S100000x1 (V (Proc.devRef .tc main_arg2)) shapeCasts_S100000_S100000x1 := by
  after_reads_simp
  rfl

variable (m : (ℓ : Loc nD τ sig) → Buf (Elt F) ℓ)

/-- The region finds the noise transposed. -/
theorem V_noise (c : Dev nD) : V m c main_v8
    = transpose S100000x128 [1, 0] (Terms.noise (F := F)) transposes_S128x100000_S100000x128_1_0 := by
  have h : V m c main_v8 = after (hostOps0 ++ hostOps0_1 ++ hostOps0_2) (fun b => m (c, b)) (Proc.devRef .tc main_v8) := by
    chain_rfl
  rw [h, after_append, after_append, transposed, noise_eq, key_eq]
  rfl

/-- The region finds the bias as a column. -/
theorem V_bias (c : Dev nD) : V m c main_v9
    = shapeCast S100000x1 (m ((c.tc : Thread nD τ).loc main_arg2)) shapeCasts_S100000_S100000x1 := by
  have h : V m c main_v9 = after (hostOps0 ++ hostOps0_1 ++ hostOps0_2) (fun b => m (c, b)) (Proc.devRef .tc main_v9) := by
    chain_rfl
  rw [h, after_append, after_append, column, keep_arg2]

end Cert.Host

end
-- ==== Proof.Blocks.lean ====
/-
  What the blocks a grid step is given hold: inside the arrays, the arrays' own elements; past their end nothing is said.
-/
module

public import proofs.«01_k».proof.Proof.FrameRun
public import proofs.«01_k».proof.Proof.Host
public import Idealize.ShloMosaic.Lib.Pipeline.Value
public import Idealize.ShloMosaic.Lib.Pointwise

@[expose] public section

set_option maxRecDepth 16384

noncomputable section

namespace Cert.Blocks

open Cert.KernelIdeal Cert.KernelIdeal.Gen Cert.FrameRun
open Idealize.ShloMosaic Idealize.ShloMosaic.TcCoe

variable {F : FTy → Type} [FloatOps F]
variable (m : (ℓ : Loc nD τ sig) → Buf (Elt F) ℓ)

/-- The grid's one coordinate is the step's number. -/
theorem coord_eq : ∀ t : Fin cfg0.N, ((grid0.coords t) 0).val = t.val := by decide

/-- How much of each block the arrays reach, and where each block starts. -/
theorem sizes : ∀ t : Fin cfg0.N, win0_1.xsize (grid0.coords t) 0 = 1024 ∧ win0_1.xsize (grid0.coords t) 1 = min 2048 (100000 - 2048 * t.val)
    ∧ win0_2.xsize (grid0.coords t) 0 = min 2048 (100000 - 2048 * t.val) ∧ win0_2.xsize (grid0.coords t) 1 = 1
    ∧ win0_3.xsize (grid0.coords t) 0 = min 2048 (100000 - 2048 * t.val) ∧ win0_3.xsize (grid0.coords t) 1 = 128 := by decide

theorem starts : ∀ t : Fin cfg0.N, win0_1.index t 0 = 0 ∧ win0_1.index t 1 = t.val ∧ win0_2.index t 0 = t.val ∧ win0_2.index t 1 = 0
    ∧ win0_3.index t 0 = t.val ∧ win0_3.index t 1 = 0 ∧ win0_0.index t 0 = 0 ∧ win0_0.index t 1 = 0 := by decide

/-- The bias as a column, at a row. -/
theorem column_apply {α : Type} (v : S100000.Idx → α) (u : Fin 100000) :
    shapeCast S100000x1 v shapeCasts_S100000_S100000x1 (ix2 u 0) = v (ix1 u) := by
  pointwise

/-- A transposed array, at an index. -/
theorem transposed_apply {α : Type} (n : S128x100000.Idx → α) (u : Fin 100000) (r : Fin 128) :
    transpose S100000x128 [1, 0] n transposes_S128x100000_S100000x128_1_0 (ix2 u r) = n (ix2 r u) := by
  pointwise

/-- The first argument's block is the whole of the first argument. -/
theorem xblk_apply (c : Dev nD) (t : Fin cfg0.N) (r : Fin 128) (k : Fin 1024) :
    iblk m c 0 t (ix2 r k) = m ((c.tc : Thread nD τ).loc main_arg0) (ix2 r k) := by
  unfold iblk
  rw [View.read_apply, show V m c (Pipeline.arrRef spec0 0) = _ from V_main_arg0 m c]
  have e : ((cfg0.win 0).blk t).view.emb (ix2 r k) = ix2 r k := by
    funext a
    apply Fin.ext
    fin_cases a
    · exact Pipeline.Window.rect_emb_val_of_index_zero win0_0 t 0 rfl _
    · exact Pipeline.Window.rect_emb_val_of_index_zero win0_0 t 1 rfl _
  rw [e]
  rfl

/-- A block of the second argument. -/
theorem wblk_apply (c : Dev nD) (t : Fin cfg0.N) (d : S1024x2048.Idx → Elt F .f32) (k : Fin 1024) (j : Fin 2048)
    (h : 2048 * t.val + j.val < 100000) :
    wblk m c t d (ix2 k j) = m ((c.tc : Thread nD τ).loc main_arg1) (ix2 k ⟨2048 * t.val + j.val, h⟩) := by
  obtain ⟨s0, s1, -⟩ := sizes t
  obtain ⟨i0, i1, -⟩ := starts t
  have hm : win0_1.moved (grid0.coords t) (ix2 k j) = true := (win0_1.moved_iff _ _).mpr fun a => by
    fin_cases a
    · exact lt_of_lt_of_eq k.isLt s0.symm
    · refine lt_of_lt_of_eq (b := min 2048 (100000 - 2048 * t.val)) ?_ s1.symm
      have := j.isLt
      change j.val < _
      omega
  unfold wblk Pipeline.Window.fill
  rw [dif_pos hm]
  unfold iblk
  rw [View.read_apply, show V m c (Pipeline.arrRef spec0 1) = _ from V_main_arg1 m c]
  have e : ((cfg0.win 1).blk t).view.emb (fun a => ⟨((ix2 k j : S1024x2048.Idx) a).val, (win0_1.moved_iff _ _).mp hm a⟩)
      = ix2 k ⟨2048 * t.val + j.val, h⟩ := by
    funext a
    apply Fin.ext
    fin_cases a
    · exact Pipeline.Window.rect_emb_val_of_index_zero win0_1 t 0 i0 _
    · refine (Pipeline.Window.rect_emb_val win0_1 t _ 1).trans ?_
      rw [i1]
      change t.val * 2048 + j.val = 2048 * t.val + j.val
      omega
  rw [e]
  rfl

/-- A block of the bias column. -/
theorem bblk_apply (c : Dev nD) (t : Fin cfg0.N) (d : S2048x1.Idx → Elt F .f32) (j : Fin 2048) (h : 2048 * t.val + j.val < 100000) :
    bblk m c t d (ix2 j 0) = m ((c.tc : Thread nD τ).loc main_arg2) (ix1 ⟨2048 * t.val + j.val, h⟩) := by
  obtain ⟨-, -, s0, s1, -⟩ := sizes t
  obtain ⟨-, -, i0, i1, -⟩ := starts t
  have hm : win0_2.moved (grid0.coords t) (ix2 j 0) = true := (win0_2.moved_iff _ _).mpr fun a => by
    fin_cases a
    · refine lt_of_lt_of_eq (b := min 2048 (100000 - 2048 * t.val)) ?_ s0.symm
      have := j.isLt
      change j.val < _
      omega
    · exact lt_of_lt_of_eq Nat.one_pos s1.symm
  unfold bblk Pipeline.Window.fill
  rw [dif_pos hm]
  unfold iblk
  rw [View.read_apply, show V m c (Pipeline.arrRef spec0 2) = _ from Host.V_bias m c]
  have e : ((cfg0.win 2).blk t).view.emb (fun a => ⟨((ix2 j 0 : S2048x1.Idx) a).val, (win0_2.moved_iff _ _).mp hm a⟩)
      = ix2 ⟨2048 * t.val + j.val, h⟩ 0 := by
    funext a
    apply Fin.ext
    fin_cases a
    · refine (Pipeline.Window.rect_emb_val win0_2 t _ 0).trans ?_
      rw [i0]
      change t.val * 2048 + j.val = 2048 * t.val + j.val
      omega
    · exact Pipeline.Window.rect_emb_val_of_index_zero win0_2 t 1 i1 _
  rw [e]
  exact column_apply _ _

/-- A block of the transposed noise. -/
theorem gblk_apply (c : Dev nD) (t : Fin cfg0.N) (d : S2048x128.Idx → Elt F .f32) (j : Fin 2048) (r : Fin 128)
    (h : 2048 * t.val + j.val < 100000) : gblk m c t d (ix2 j r) = Terms.noise (F := F) (ix2 r ⟨2048 * t.val + j.val, h⟩) := by
  obtain ⟨-, -, -, -, s0, s1⟩ := sizes t
  obtain ⟨-, -, -, -, i0, i1, -⟩ := starts t
  have hm : win0_3.moved (grid0.coords t) (ix2 j r) = true := (win0_3.moved_iff _ _).mpr fun a => by
    fin_cases a
    · refine lt_of_lt_of_eq (b := min 2048 (100000 - 2048 * t.val)) ?_ s0.symm
      have := j.isLt
      change j.val < _
      omega
    · exact lt_of_lt_of_eq r.isLt s1.symm
  unfold gblk Pipeline.Window.fill
  rw [dif_pos hm]
  unfold iblk
  rw [View.read_apply, show V m c (Pipeline.arrRef spec0 3) = _ from Host.V_noise m c]
  have e : ((cfg0.win 3).blk t).view.emb (fun a => ⟨((ix2 j r : S2048x128.Idx) a).val, (win0_3.moved_iff _ _).mp hm a⟩)
      = ix2 ⟨2048 * t.val + j.val, h⟩ r := by
    funext a
    apply Fin.ext
    fin_cases a
    · refine (Pipeline.Window.rect_emb_val win0_3 t _ 0).trans ?_
      rw [i0]
      change t.val * 2048 + j.val = 2048 * t.val + j.val
      omega
    · exact Pipeline.Window.rect_emb_val_of_index_zero win0_3 t 1 i1 _
  rw [e]
  exact (cast_eq _ _).trans (transposed_apply (Terms.noise (F := F)) ⟨2048 * t.val + j.val, h⟩ r)

end Cert.Blocks

end
-- ==== Proof.First.lean ====
/-
  The first place where a row of extended reals is largest: there is at most one, and it can be found block by block or one
  entry at a time.
-/
module

public import Mathlib.Data.EReal.Basic

@[expose] public section

noncomputable section

namespace Cert.First

/-- `v` is the first of the places `0 … N-1` where `f` is largest. -/
def IsFirst (N : ℕ) (f : ℕ → EReal) (v : ℕ) : Prop := v < N ∧ (∀ u < N, f u ≤ f v) ∧ ∀ u < v, f u < f v

/-- There is one first place at most. -/
theorem IsFirst.unique {N : ℕ} {f : ℕ → EReal} {v w : ℕ} (hv : IsFirst N f v) (hw : IsFirst N f w) : v = w := by
  rcases lt_trichotomy v w with h | h | h
  · exact absurd (hw.2.2 v h) (not_lt.mpr (hv.2.1 w hw.1))
  · exact h
  · exact absurd (hv.2.2 w h) (not_lt.mpr (hw.2.1 v hv.1))

/-- Whether a place is first depends on the entries only. -/
theorem IsFirst.congr {N : ℕ} {f g : ℕ → EReal} {v : ℕ} (h : ∀ u < N, f u = g u) (hv : IsFirst N f v) : IsFirst N g v := by
  refine ⟨hv.1, fun u hu => ?_, fun u hu => ?_⟩
  · rw [← h u hu, ← h v hv.1]; exact hv.2.1 u hu
  · rw [← h u (hu.trans hv.1), ← h v hv.1]; exact hv.2.2 u hu

/-- Places past the end that hold −∞ do not change which is first. -/
theorem IsFirst.restrict {N M : ℕ} {f : ℕ → EReal} {v : ℕ} (hN : 0 < N) (h : ∀ u, N ≤ u → f u = ⊥) (hv : IsFirst M f v)
    (hNM : N ≤ M) : IsFirst N f v := by
  have hlt : v < N := by
    by_contra hc
    have h0 := hv.2.2 0 (lt_of_lt_of_le hN (not_lt.mp hc))
    rw [h v (not_lt.mp hc)] at h0
    exact absurd h0 not_lt_bot
  exact ⟨hlt, fun u hu => hv.2.1 u (hu.trans_le hNM), hv.2.2⟩

/-- The first place over the places so far and one more block: the block's own, if its entry is greater. -/
theorem IsFirst.append {N k : ℕ} {f : ℕ → EReal} {v w : ℕ} (hv : IsFirst N f v)
    (hw : IsFirst k (fun j => f (N + j)) w) :
    IsFirst (N + k) f (if f v < f (N + w) then N + w else v) := by
  obtain ⟨hv1, hv2, hv3⟩ := hv
  obtain ⟨hw1, hw2, hw3⟩ := hw
  have block : ∀ u, N ≤ u → u < N + k → f u ≤ f (N + w) := fun u h1 h2 => by
    have h := hw2 (u - N) (by omega)
    dsimp only at h
    rwa [Nat.add_sub_cancel' h1] at h
  split_ifs with h
  · refine ⟨by omega, fun u hu => ?_, fun u hu => ?_⟩
    · rcases lt_or_ge u N with hc | hc
      · exact ((hv2 u hc).trans_lt h).le
      · exact block u hc hu
    · rcases lt_or_ge u N with hc | hc
      · exact (hv2 u hc).trans_lt h
      · have h' := hw3 (u - N) (by omega)
        dsimp only at h'
        rwa [Nat.add_sub_cancel' hc] at h'
  · refine ⟨by omega, fun u hu => ?_, hv3⟩
    rcases lt_or_ge u N with hc | hc
    · exact hv2 u hc
    · exact (block u hc hu).trans (not_lt.mp h)

/-- A place whose entry exceeds every other one is first. -/
theorem isFirst_of_lt {N : ℕ} {f : ℕ → EReal} {v : ℕ} (hv : v < N) (h : ∀ u < N, u ≠ v → f u < f v) : IsFirst N f v :=
  ⟨hv, fun u hu => by
    by_cases hc : u = v
    · rw [hc]
    · exact (h u hu hc).le, fun u hu => h u (hu.trans hv) hu.ne⟩

/-- The largest entry and the least place holding it. -/
theorem isFirst_of_sup {N : ℕ} {f : ℕ → EReal} {v : ℕ} {M : EReal} (hv : v < N) (hM : f v = M) (hle : ∀ u < N, f u ≤ M)
    (hmin : ∀ u < N, f u = M → v ≤ u) : IsFirst N f v := by
  refine ⟨hv, fun u hu => hM ▸ hle u hu, fun u hu => lt_of_le_of_ne (hM ▸ hle u (hu.trans hv)) fun h => ?_⟩
  exact absurd (hmin u (hu.trans hv) (h.trans hM)) (not_le.mpr hu)

end Cert.First

end
-- ==== Proof.Argmax.lean ====
/-
  What the host's arg-max computes over extended reals: the first place where a row is largest.
-/
module

public import proofs.«01_k».proof.Proof.MaskFacts
public import proofs.«01_k».proof.Proof.First
public import Idealize.ShloMosaic.Lib.Pointwise

@[expose] public section

set_option maxRecDepth 16384

noncomputable section

namespace Cert.Argmax

open Cert.On_clear_winner Cert.On_clear_winner.Facts Cert.First
open Idealize.ShloMosaic

/-- A row of an array, as a sequence that is −∞ past the row's end. -/
def row (x : FVec Ideal S128x100000 .f32) (r : Fin 128) (u : ℕ) : EReal :=
  if h : u < 100000 then x (ix2 r ⟨u, h⟩) else ⊥

theorem row_of_lt (x : FVec Ideal S128x100000 .f32) (r : Fin 128) (u : Fin 100000) : row x r u.val = x (ix2 r u) :=
  dif_pos u.isLt

theorem row_of_ge (x : FVec Ideal S128x100000 .f32) (r : Fin 128) {u : ℕ} (h : 100000 ≤ u) : row x r u = ⊥ :=
  dif_neg (not_lt.mpr h)

/-- The word of −∞. -/
theorem ofBits_bot : Ideal.ofBits .f32 0xFF800000#32 = ⊥ := by simp [Ideal.ofBits, Ideal.ieee]

/-- Small numbers compare as signed words as they do. -/
theorem slt_iff {u v : ℕ} (hu : u < 2 ^ 31) (hv : v < 2 ^ 31) : (BitVec.ofNat 32 u).slt (BitVec.ofNat 32 v) = decide (u < v) := by
  have h1 : (BitVec.ofNat 32 u).toInt = u := by
    rw [BitVec.toInt_eq_toNat_of_lt (by rw [BitVec.toNat_ofNat]; omega), BitVec.toNat_ofNat]; omega
  have h2 : (BitVec.ofNat 32 v).toInt = v := by
    rw [BitVec.toInt_eq_toNat_of_lt (by rw [BitVec.toNat_ofNat]; omega), BitVec.toNat_ofNat]; omega
  rw [BitVec.slt, h1, h2]
  simp

/-- The reducer's value is the greater of the two; its index is the first's if its value is greater, or equal at a lower
    place. -/
theorem reducer_eq (a b : EReal) {u v : ℕ} (hu : u < 2 ^ 31) (hv : v < 2 ^ 31) :
    reducer_argmax_f32_i32 (F := Ideal) (a, BitVec.ofNat 32 u) (b, BitVec.ofNat 32 v)
      = (if b < a then a else b, BitVec.ofNat 32 (if b < a ∨ (a = b ∧ u < v) then u else v)) := by
  have h := slt_iff hu hv
  unfold reducer_argmax_f32_i32
  simp only [Ideal.cmpf_def, Ideal.cmp, IntOp.cmpi, h, Scalar.select, IntOp.ori, IntOp.andi]
  by_cases h1 : b < a
  · have h2 : a ≠ b := ne_of_gt h1
    simp [h1, h2]
  · by_cases h2 : a = b
    · subst h2
      by_cases h3 : u < v <;> simp [h3]
    · simp [h1, h2]

/-- What the fold has found after the places of a list: the largest entry, and its first place unless nothing exceeded −∞. -/
structure Found (f : ℕ → EReal) (D : List ℕ) (p : EReal × BitVec 32) (v : ℕ) : Prop where
  index : p.2 = BitVec.ofNat 32 v
  small : v < 2 ^ 31
  le : ∀ k ∈ D, f k ≤ p.1
  least : ∀ k ∈ D, f k = p.1 → v ≤ k
  place : (v ∈ D ∧ f v = p.1) ∨ (p.1 = ⊥ ∧ v = 0)

/-- The fold over one more place. -/
theorem Found.step {f : ℕ → EReal} {D : List ℕ} {p : EReal × BitVec 32} {v : ℕ} (h : Found f D p v) {k : ℕ} (hk : k < 2 ^ 31) :
    ∃ w, Found f (D ++ [k]) (reducer_argmax_f32_i32 (F := Ideal) p (f k, BitVec.ofNat 32 k)) w := by
  obtain ⟨a, i⟩ := p
  obtain ⟨hi, hv, hle, hleast, hplace⟩ := h
  dsimp only at hi hle hleast hplace
  subst hi
  rw [reducer_eq a (f k) hv hk]
  rcases lt_trichotomy a (f k) with h | h | h
  · have e1 : ¬ f k < a := not_lt.mpr h.le
    have e2 : a ≠ f k := h.ne
    refine ⟨k, ?_⟩
    simp only [e1, e2, if_false, false_and, or_false]
    refine ⟨rfl, hk, fun u hu => ?_, fun u hu hfu => ?_, .inl ⟨by simp, rfl⟩⟩
    · rcases List.mem_append.mp hu with hu | hu
      · exact (hle u hu).trans h.le
      · rw [List.mem_singleton.mp hu]
    · rcases List.mem_append.mp hu with hu | hu
      · exact absurd (hle u hu) (not_le.mpr (hfu ▸ h))
      · exact (List.mem_singleton.mp hu).ge
  · have e1 : ¬ f k < a := not_lt.mpr h.le
    by_cases h3 : v < k
    · refine ⟨v, ?_⟩
      simp only [e1, h, h3, lt_irrefl, if_false, true_and, false_or, if_true]
      refine ⟨rfl, hv, fun u hu => ?_, fun u hu hfu => ?_, ?_⟩
      · rcases List.mem_append.mp hu with hu | hu
        · exact (hle u hu).trans h.le
        · rw [List.mem_singleton.mp hu]
      · rcases List.mem_append.mp hu with hu | hu
        · exact hleast u hu (hfu.trans h.symm)
        · exact (List.mem_singleton.mp hu) ▸ h3.le
      · rcases hplace with ⟨h4, h5⟩ | ⟨h4, h5⟩
        · exact .inl ⟨List.mem_append_left _ h4, h5.trans h⟩
        · exact .inr ⟨h.symm.trans h4, h5⟩
    · refine ⟨k, ?_⟩
      simp only [e1, h, h3, lt_irrefl, if_false, and_false, or_false]
      refine ⟨rfl, hk, fun u hu => ?_, fun u hu hfu => ?_, .inl ⟨by simp, rfl⟩⟩
      · rcases List.mem_append.mp hu with hu | hu
        · exact (hle u hu).trans h.le
        · rw [List.mem_singleton.mp hu]
      · rcases List.mem_append.mp hu with hu | hu
        · exact (not_lt.mp h3).trans (hleast u hu (hfu.trans h.symm))
        · exact (List.mem_singleton.mp hu).ge
  · refine ⟨v, ?_⟩
    simp only [h, if_true, true_or]
    refine ⟨rfl, hv, fun u hu => ?_, fun u hu hfu => ?_, ?_⟩
    · rcases List.mem_append.mp hu with hu | hu
      · exact hle u hu
      · exact (List.mem_singleton.mp hu) ▸ h.le
    · rcases List.mem_append.mp hu with hu | hu
      · exact hleast u hu hfu
      · exact absurd ((List.mem_singleton.mp hu) ▸ hfu) h.ne
    · rcases hplace with ⟨h4, h5⟩ | h4
      · exact .inl ⟨List.mem_append_left _ h4, h5⟩
      · exact .inr h4

/-- The fold over a list of places. -/
theorem found_foldl {f : ℕ → EReal} (L : List ℕ) (hL : ∀ k ∈ L, k < 2 ^ 31) : ∀ {D : List ℕ} {p : EReal × BitVec 32} {v : ℕ},
    Found f D p v → ∃ w, Found f (D ++ L) ((L.map fun k => (f k, BitVec.ofNat 32 k)).foldl (reducer_argmax_f32_i32 (F := Ideal)) p) w := by
  induction L with
  | nil => intro D p v h; exact ⟨v, by simpa using h⟩
  | cons k L ih =>
    intro D p v h
    obtain ⟨w, hw⟩ := h.step (hL k (List.mem_cons_self ..))
    obtain ⟨z, hz⟩ := ih (fun u hu => hL u (List.mem_cons_of_mem _ hu)) hw
    exact ⟨z, by rw [List.append_assoc] at hz; exact hz⟩

/-- Over every place below `N`, in any order, the fold finds the first place of the largest entry. -/
theorem foldl_isFirst {f : ℕ → EReal} {N : ℕ} (hN : 0 < N) (hN' : N < 2 ^ 31) (L : List ℕ) (hL : ∀ k, k ∈ L ↔ k < N) :
    ∃ v, IsFirst N f v ∧ ((L.map fun k => (f k, BitVec.ofNat 32 k)).foldl (reducer_argmax_f32_i32 (F := Ideal)) (⊥, 0#32)).2 = BitVec.ofNat 32 v := by
  have h0 : Found f [] ((⊥ : EReal), 0#32) 0 := ⟨rfl, by norm_num, by simp, by simp, .inr ⟨rfl, rfl⟩⟩
  obtain ⟨v, hv⟩ := found_foldl L (fun k hk => ((hL k).mp hk).trans hN') h0
  rw [List.nil_append] at hv
  refine ⟨v, ?_, hv.index⟩
  have hp : v < N ∧ f v = ((L.map fun k => (f k, BitVec.ofNat 32 k)).foldl (reducer_argmax_f32_i32 (F := Ideal)) (⊥, 0#32)).1 := by
    rcases hv.place with ⟨h1, h2⟩ | ⟨h1, h2⟩
    · exact ⟨(hL v).mp h1, h2⟩
    · subst h2
      refine ⟨hN, le_antisymm (hv.le 0 ((hL 0).mpr hN)) ?_⟩
      rw [h1]; exact bot_le
  exact isFirst_of_sup hp.1 hp.2 (fun u hu => hv.le u ((hL u).mpr hu)) fun u hu => hv.least u ((hL u).mpr hu)

/-- A host's arg-max takes the index of the plain fold over its fiber. -/
theorem argReduce_snd {s t u : Shape} {axes : List (Fin s.rank)} (f : EReal × BitVec 32 → EReal × BitVec 32 → EReal × BitVec 32)
    (x : FVec Ideal s .f32) (y : s.Idx → BitVec 32) (ix : u.Idx → EReal) (iy : u.Idx → BitVec 32) (h : s.ReducesTo axes t)
    (hu : 0 < u.numel) :
    (fun j => (Host.argReduce (F := Ideal) (φ := .f32) f x y ix iy h hu j).2)
      = fun j => ((Host.argReduceFiber x y h j).foldl f (ix (Shape.Idx.first hu), iy (Shape.Idx.first hu))).2 := by
  funext j
  rw [Ideal.argReduce_eq_reduce2, Host.reduce2_eq_foldl_fiber]

/-- The arg-max is that fold over each row. -/
theorem argmax_eq (x : FVec Ideal S128x100000 .f32) : fn_argmax (F := Ideal) x
    = fun j => ((Host.argReduceFiber x (iotaInDim S128x100000 32 1) reducesTo_S128x100000_S128_d1 j).foldl
        (reducer_argmax_f32_i32 (F := Ideal))
        (constant (F := Ideal) S_ .f32 0xFF800000#32 (Shape.Idx.first h_S_), (constantI S_ 32 0#32) (Shape.Idx.first h_S_))).2 :=
  argReduce_snd _ _ _ _ _ _ _

/-- An index drops to the row it lies on. -/
theorem drop_iff (i : S128x100000.Idx) (r : Fin 128) :
    (reducesTo_S128x100000_S128_d1).drop i = ix1 r ↔ (i 0).val = r.val := by
  have h := Shape.ReducesTo.drop_apply_val_of_eq (reducesTo_S128x100000_S128_d1) i 0 0
  constructor
  · intro e; rw [e] at h; exact h.symm
  · intro e
    funext b
    apply Fin.ext
    have hb : b = 0 := Subsingleton.elim (α := Fin 1) b 0
    subst hb
    exact h.trans e

/-- The columns of the fiber over row `r`, in the order the fold reads them. -/
def columns (r : Fin 128) : List ℕ :=
  ((List.finRange S128x100000.numel).filter fun n => (reducesTo_S128x100000_S128_d1).drop (S128x100000.rowMajor.symm n) = ix1 r).map
    fun n => (S128x100000.rowMajor.symm n 1).val

theorem mem_columns (r : Fin 128) (k : ℕ) : k ∈ columns r ↔ k < 100000 := by
  unfold columns
  rw [List.mem_map]
  constructor
  · rintro ⟨n, -, rfl⟩
    exact (S128x100000.rowMajor.symm n 1).isLt
  · intro hk
    refine ⟨S128x100000.rowMajor (ix2 r ⟨k, hk⟩), ?_, ?_⟩
    · rw [List.mem_filter, Equiv.symm_apply_apply, decide_eq_true_eq, drop_iff]
      exact ⟨List.mem_finRange _, rfl⟩
    · rw [Equiv.symm_apply_apply]; rfl

/-- The fiber holds the row's entries with their columns. -/
theorem fiber_eq (x : FVec Ideal S128x100000 .f32) (r : Fin 128) :
    Host.argReduceFiber x (iotaInDim S128x100000 32 1) reducesTo_S128x100000_S128_d1 (ix1 r)
      = (columns r).map fun k => (row x r k, BitVec.ofNat 32 k) := by
  unfold Host.argReduceFiber columns
  rw [List.map_map]
  refine List.map_congr_left fun n hn => ?_
  rw [List.mem_filter, decide_eq_true_eq, drop_iff] at hn
  have h0 := hn.2
  change (x (S128x100000.rowMajor.symm n), BitVec.ofNat 32 (S128x100000.rowMajor.symm n 1).val)
    = (row x r (S128x100000.rowMajor.symm n 1).val, BitVec.ofNat 32 (S128x100000.rowMajor.symm n 1).val)
  generalize S128x100000.rowMajor.symm n = i at h0
  have e : i = ix2 r (i 1) := by
    rw [eq_ix2 (n0 := 128) (n1 := 100000) i]
    exact congrArg (fun a => ix2 (n0 := 128) (n1 := 100000) a (i 1)) (Fin.ext h0)
  refine congrArg (fun z : EReal => (z, BitVec.ofNat 32 (i 1).val)) ?_
  rw [row_of_lt x r (i 1)]
  exact congrArg x e

/-- The arg-max of a row is the first place where the row is largest. -/
theorem argmax_spec (x : FVec Ideal S128x100000 .f32) (r : Fin 128) :
    ∃ v, IsFirst 100000 (row x r) v ∧ fn_argmax (F := Ideal) x (ix1 r) = BitVec.ofNat 32 v := by
  obtain ⟨v, h1, h2⟩ := foldl_isFirst (f := row x r) (by norm_num) (by norm_num) (columns r) (mem_columns r)
  refine ⟨v, h1, ?_⟩
  rw [← h2, ← fiber_eq]
  refine (congrFun (argmax_eq x) (ix1 r)).trans ?_
  have e : (constant (F := Ideal) S_ .f32 0xFF800000#32 (Shape.Idx.first h_S_) : EReal) = ⊥ := ofBits_bot
  rw [e]
  rfl

end Cert.Argmax

end
-- ==== Proof.BlockMax.lean ====
/-
  What a grid step computes of its block, over extended reals: each lane's largest score of the block, and the first row of
  the block that holds it.
-/
module

public import proofs.«01_k».proof.Proof.Argmax
public import proofs.«01_k».proof.Proof.Gen.KernelIdeal.Skeleton

@[expose] public section

set_option maxRecDepth 16384

noncomputable section

namespace Cert.BlockMax

open Cert.KernelIdeal Cert.KernelIdeal.Gen Cert.First
open Idealize.ShloMosaic Idealize.ShloMosaic.TcCoe

/-- Some place is first. -/
theorem exists_isFirst (f : ℕ → EReal) : ∀ N : ℕ, ∃ v, IsFirst (N + 1) f v := by
  intro N
  induction N with
  | zero => exact ⟨0, Nat.one_pos, fun u hu => by rw [Nat.lt_one_iff.mp hu], fun u hu => absurd hu (Nat.not_lt_zero u)⟩
  | succ N ih =>
    obtain ⟨v, hv⟩ := ih
    exact ⟨_, hv.append (k := 1) (w := 0) ⟨Nat.one_pos, fun u hu => by rw [Nat.lt_one_iff.mp hu], fun u hu => absurd hu (Nat.not_lt_zero u)⟩⟩

/-- The fold of `max` from −∞ is the entry at the first place. -/
theorem fold_max_eq {N : ℕ} {f : ℕ → EReal} {v : ℕ} (h : IsFirst N f v) :
    (Finset.univ : Finset (Fin N)).fold max ⊥ (fun j => f j.val) = f v :=
  le_antisymm ((Finset.fold_max_le _).mpr ⟨bot_le, fun j _ => h.2.1 j.val j.isLt⟩)
    ((Finset.le_fold_max _).mpr (.inr ⟨⟨v, h.1⟩, Finset.mem_univ _, le_refl _⟩))

/-- The signed minimum of two words, as integers. -/
theorem toInt_minsi (x y : BitVec 32) : (IntOp.minsi x y).toInt = min x.toInt y.toInt := by
  unfold IntOp.minsi
  rw [BitVec.slt]
  by_cases h : x.toInt < y.toInt
  · simp [h, h.le]
  · simp [h, not_lt.mp h]

theorem toInt_ofNat {u : ℕ} (hu : u < 2 ^ 31) : (BitVec.ofNat 32 u).toInt = u := by
  rw [BitVec.toInt_eq_toNat_of_lt (by rw [BitVec.toNat_ofNat]; omega), BitVec.toNat_ofNat]; omega

/-- The fold of the signed minimum over the rows that hold the largest entry finds the first of them. -/
theorem fold_min_eq {N o : ℕ} {f : ℕ → EReal} {v : ℕ} (h : IsFirst N f v) (ho : o + N < 2 ^ 31) :
    (Finset.univ : Finset (Fin N)).fold IntOp.minsi 2147483647#32
      (fun j => if f j.val = f v then BitVec.ofNat 32 (o + j.val) else 2147483647#32) = BitVec.ofNat 32 (o + v) := by
  have hv := h.1
  apply BitVec.eq_of_toInt_eq
  have hbig : (2147483647#32 : BitVec 32).toInt = 2147483647 := by decide
  rw [← Finset.fold_hom (op' := min) (m := BitVec.toInt) toInt_minsi, hbig, toInt_ofNat (u := o + v) (by omega)]
  refine le_antisymm ((Finset.fold_min_le _).mpr (.inr ⟨⟨v, hv⟩, Finset.mem_univ _, ?_⟩)) ((Finset.le_fold_min _).mpr ⟨?_, fun j _ => ?_⟩)
  · dsimp only; rw [if_pos rfl, toInt_ofNat (u := o + v) (by omega)]
  · omega
  · have hj := j.isLt
    split_ifs with e
    · rw [toInt_ofNat (u := o + j.val) (by omega)]
      have : ¬ j.val < v := fun hlt => absurd e (h.2.2 _ hlt).ne
      omega
    · rw [hbig]; omega

variable (i : grid0.Coords) (X : FVec Ideal S128x1024 .f32) (W : FVec Ideal S1024x2048 .f32) (b : FVec Ideal S2048x1 .f32)
  (g : FVec Ideal S2048x128 .f32)

/-- The row numbers of a block. -/
theorem pay1_apply (j : Fin 2048) (r : Fin 128) : k0_pay1 i (ix2 j r) = BitVec.ofNat 32 (2048 * (i 0).val + j.val) := by
  pointwise [k0_pay1]
  rw [Nat.add_comm, Nat.mul_comm, BitVec.ofNat_add, BitVec.ofNat_mul]
  rfl

/-- The scores of a block: −∞ past the end of the arrays. -/
theorem pay2_apply (j : Fin 2048) (r : Fin 128) : k0_pay2 (F := Ideal) i W X b g (ix2 j r)
    = if 2048 * (i 0).val + j.val < 100000 then (∑ k : Fin 1024, W (ix2 k j) * X (ix2 r k)) + b (ix2 j 0) + g (ix2 j r) else (⊥ : EReal) := by
  pointwise [k0_pay2, dot_S1024x2048_S128x1024_S2048x128_0_1_1_0_n_n]
  have hi : (i 0).val < 49 := (i 0).isLt
  rw [pay1_apply, Argmax.ofBits_bot, show (100000#32 : BitVec 32) = BitVec.ofNat 32 100000 from rfl, IntOp.cmpi,
    Argmax.slt_iff (by have := j.isLt; omega) (by norm_num)]
  by_cases h : 2048 * (i 0).val + j.val < 100000 <;> simp [h, Scalar.select]

/-- Each lane's largest score of the block and its first row, when the block's scores are `f` from row `2048 * i`. -/
theorem block_first (r : Fin 128) (f : ℕ → EReal)
    (hf : ∀ j : Fin 2048, k0_pay2 (F := Ideal) i W X b g (ix2 j r) = f (2048 * (i 0).val + j.val)) :
    ∃ w, IsFirst 2048 (fun j => f (2048 * (i 0).val + j)) w
      ∧ k0_pay3 (F := Ideal) i W X b g (ix2 0 r) = f (2048 * (i 0).val + w)
      ∧ k0_pay4 (F := Ideal) i W X b g (ix2 0 r) = BitVec.ofNat 32 (2048 * (i 0).val + w) := by
  obtain ⟨w, hw⟩ := exists_isFirst (fun j => f (2048 * (i 0).val + j)) 2047
  have hi : (i 0).val < 49 := (i 0).isLt
  have h3 : k0_pay3 (F := Ideal) i W X b g (ix2 0 r) = f (2048 * (i 0).val + w) := by
    pointwise [k0_pay3]
    rw [Argmax.ofBits_bot, show (fun x : Fin 2048 => k0_pay2 (F := Ideal) i W X b g (ix2 x r)) = fun x => f (2048 * (i 0).val + x.val) from funext hf]
    exact fold_max_eq hw
  refine ⟨w, hw, h3, ?_⟩
  pointwise [k0_pay4]
  rw [h3]
  have e : (fun x : Fin 2048 => if k0_pay2 (F := Ideal) i W X b g (ix2 x r) = f (2048 * (i 0).val + w) then k0_pay1 i (ix2 x r) else 2147483647#32)
      = fun x => if f (2048 * (i 0).val + x.val) = f (2048 * (i 0).val + w) then BitVec.ofNat 32 (2048 * (i 0).val + x.val) else 2147483647#32 := by
    funext x; rw [hf x, pay1_apply]
  rw [e]
  have h := fold_min_eq (o := 2048 * (i 0).val) hw (by omega)
  dsimp only at h
  rw [← h]

/-- The first step keeps the block's largest score and its row. -/
theorem pay5_apply (r : Fin 128) : k0_pay5 (F := Ideal) i W X b g (ix2 0 r) = k0_pay3 (F := Ideal) i W X b g (ix2 0 r) := by
  unfold k0_pay5
  generalize k0_pay3 (F := Ideal) i W X b g = p
  pointwise

theorem pay6_apply (r : Fin 128) : k0_pay6 (F := Ideal) i W X b g (ix2 0 r) = k0_pay4 (F := Ideal) i W X b g (ix2 0 r) := by
  unfold k0_pay6
  generalize k0_pay4 (F := Ideal) i W X b g = p
  pointwise

/-- A later step keeps the greater of the block's largest score and the running one, and the row that goes with it. -/
theorem pay8_apply (B : FVec Ideal S1x128 .f32) (r : Fin 128) : k0_pay8 (F := Ideal) i W X b g B B (ix2 0 r)
    = if B (ix2 0 r) < k0_pay3 (F := Ideal) i W X b g (ix2 0 r) then k0_pay3 (F := Ideal) i W X b g (ix2 0 r) else B (ix2 0 r) := by
  unfold k0_pay8 k0_pay7
  generalize k0_pay3 (F := Ideal) i W X b g = p
  pointwise

theorem pay9_apply (B : FVec Ideal S1x128 .f32) (I : IVec S1x128 32) (r : Fin 128) : k0_pay9 (F := Ideal) i W X b g B I (ix2 0 r)
    = if B (ix2 0 r) < k0_pay3 (F := Ideal) i W X b g (ix2 0 r) then k0_pay4 (F := Ideal) i W X b g (ix2 0 r) else I (ix2 0 r) := by
  unfold k0_pay9 k0_pay7
  generalize k0_pay3 (F := Ideal) i W X b g = p
  generalize k0_pay4 (F := Ideal) i W X b g = q
  pointwise

end Cert.BlockMax

end
-- ==== Proof.Logits.lean ====
/-
  The logits and the kernel's scores, at an index, over extended reals.
-/
module

public import proofs.«01_k».proof.Proof.Terms
public import Idealize.ShloMosaic.Lib.Pointwise

@[expose] public section

set_option maxRecDepth 16384

noncomputable section

namespace Cert.Logits

open Cert.On_clear_winner
open Idealize.ShloMosaic

variable (X : FVec Ideal S128x1024 .f32) (W : FVec Ideal S1024x100000 .f32) (b : FVec Ideal S100000 .f32)

/-- A logit is its row of `x` times its column of `W`, plus its bias. -/
theorem logits_apply (r : Fin 128) (u : Fin 100000) :
    Terms.logits (F := Ideal) X W b (ix2 r u) = (∑ k : Fin 1024, X (ix2 r k) * W (ix2 k u)) + b (ix1 u) := by
  pointwise [Terms.logits, dot_S128x1024_S1024x100000_S128x100000_1_0_0_1_n_n]

/-- A score is its logit plus its noise. -/
theorem scores_apply (r : Fin 128) (u : Fin 100000) :
    Terms.scores (F := Ideal) X W b (ix2 r u) = Terms.logits (F := Ideal) X W b (ix2 r u) + Terms.noise (F := Ideal) (ix2 r u) := by
  unfold Terms.scores
  generalize Terms.noise (F := Ideal) = n
  generalize Terms.logits (F := Ideal) X W b = l
  rfl

end Cert.Logits

end
-- ==== Proof.Steps.lean ====
/-
  The kernel's running best over extended reals: after `t` steps each lane holds the largest score of its row's first
  `2048 t` columns and the first column that has it, whatever the blocks hold past the arrays' end.
-/
module

public import proofs.«01_k».proof.Proof.Blocks
public import proofs.«01_k».proof.Proof.BlockMax
public import proofs.«01_k».proof.Proof.Logits

@[expose] public section

set_option maxRecDepth 16384

noncomputable section

namespace Cert.Steps

open Cert.KernelIdeal Cert.KernelIdeal.Gen Cert.Body Cert.FrameRun Cert.First
open Idealize.ShloMosaic Idealize.ShloMosaic.TcCoe

variable (m : (ℓ : Loc nD τ sig) → Buf (Elt Ideal) ℓ)

/-- The scores of the arguments a device holds. -/
def scores (c : Dev nD) : FVec Ideal On_clear_winner.S128x100000 .f32 :=
  Terms.scores (F := Ideal) (m ((c.tc : Thread nD τ).loc main_arg0)) (m ((c.tc : Thread nD τ).loc main_arg1))
    (m ((c.tc : Thread nD τ).loc main_arg2))

/-- What is known of the running buffers after `t` steps. -/
def Q (c : Dev nD) (t : ℕ) (B : S1x128.Idx → Elt Ideal .f32) (I : S1x128.Idx → Elt Ideal .i32) : Prop :=
  t = 0 ∨ ∀ r : Fin 128, ∃ v, IsFirst (2048 * t) (Argmax.row (scores m c) r) v
    ∧ B (ix2 0 r) = Argmax.row (scores m c) r v ∧ I (ix2 0 r) = BitVec.ofNat 32 v

/-- A block's scores are the row's, and −∞ past the end. -/
theorem block_scores (c : Dev nD) (t : Fin cfg0.N) (d1 d2 d3) (j : Fin 2048) (r : Fin 128) :
    k0_pay2 (F := Ideal) (grid0.coords t) (wblk m c t d1) (iblk m c 0 t) (bblk m c t d2) (gblk m c t d3) (ix2 j r)
      = Argmax.row (scores m c) r (2048 * ((grid0.coords t) 0).val + j.val) := by
  refine (BlockMax.pay2_apply (grid0.coords t) (iblk m c 0 t) (wblk m c t d1) (bblk m c t d2) (gblk m c t d3) j r).trans ?_
  rw [Blocks.coord_eq t]
  by_cases h : 2048 * t.val + j.val < 100000
  · rw [if_pos h, Argmax.row_of_lt (scores m c) r ⟨2048 * t.val + j.val, h⟩, Blocks.bblk_apply m c t d2 j h, Blocks.gblk_apply m c t d3 j r h]
    unfold scores
    rw [Logits.scores_apply, Logits.logits_apply]
    refine congrArg (fun z : EReal => z + _ + _) (Finset.sum_congr rfl fun k _ => ?_)
    rw [Blocks.wblk_apply m c t d1 k j h, Blocks.xblk_apply m c t r k]
    exact mul_comm _ _
  · rw [if_neg h, Argmax.row_of_ge _ _ (not_lt.mp h)]

/-- One step. -/
theorem step (c : Dev nD) (t : Fin cfg0.N) (d1 d2 d3) (B : S1x128.Idx → Elt Ideal .f32) (I : S1x128.Idx → Elt Ideal .i32)
    (h : Q m c t.val B I) :
    Q m c (t.val + 1) (newB (grid0.coords t) (iblk m c 0 t) (wblk m c t d1) (bblk m c t d2) (gblk m c t d3) B)
      (newI (grid0.coords t) (iblk m c 0 t) (wblk m c t d1) (bblk m c t d2) (gblk m c t d3) B I) := by
  refine .inr fun r => ?_
  obtain ⟨w, hw, h3, h4⟩ := BlockMax.block_first (grid0.coords t) (iblk m c 0 t) (wblk m c t d1) (bblk m c t d2) (gblk m c t d3) r
    (Argmax.row (scores m c) r) fun j => block_scores m c t d1 d2 d3 j r
  rw [Blocks.coord_eq t] at hw h3 h4
  unfold newB newI
  rw [Blocks.coord_eq t]
  by_cases ht : t.val = 0
  · rw [if_pos ht, if_pos ht]
    rw [ht] at hw h3 h4 ⊢
    refine ⟨w, ?_, ?_, ?_⟩
    · simpa using hw
    · refine (BlockMax.pay5_apply (grid0.coords t) (iblk m c 0 t) (wblk m c t d1) (bblk m c t d2) (gblk m c t d3) r).trans (h3.trans ?_)
      simp
    · refine (BlockMax.pay6_apply (grid0.coords t) (iblk m c 0 t) (wblk m c t d1) (bblk m c t d2) (gblk m c t d3) r).trans (h4.trans ?_)
      simp
  · rw [if_neg ht, if_neg ht]
    obtain ⟨v, hv, hB, hI⟩ := (h.resolve_left ht) r
    have hvw := hv.append hw
    rw [← Nat.mul_succ] at hvw
    refine ⟨_, hvw, ?_, ?_⟩
    · refine (BlockMax.pay8_apply (grid0.coords t) (iblk m c 0 t) (wblk m c t d1) (bblk m c t d2) (gblk m c t d3) B r).trans ?_
      rw [h3, hB]
      split_ifs <;> rfl
    · refine (BlockMax.pay9_apply (grid0.coords t) (iblk m c 0 t) (wblk m c t d1) (bblk m c t d2) (gblk m c t d3) B I r).trans ?_
      rw [h3, h4, hB, hI]
      split_ifs <;> rfl

/-- The running index after the last step: each row's first best column. -/
def G (c : Dev nD) : S1x128.Idx → Elt Ideal .i32 := fun y => On_clear_winner.fn_argmax (F := Ideal) (scores m c) (ix1 (n0 := 128) (y 1))

theorem last (c : Dev nD) (B : S1x128.Idx → Elt Ideal .f32) (I : S1x128.Idx → Elt Ideal .i32) (h : Q m c 49 B I) : I = G m c := by
  funext y
  obtain ⟨v, hv, -, hI⟩ := (h.resolve_left (by norm_num)) (y 1)
  obtain ⟨w, hw, hG⟩ := Argmax.argmax_spec (scores m c) (y 1)
  have hv' := hv.restrict (N := 100000) (by norm_num) (fun u hu => Argmax.row_of_ge _ _ hu) (by norm_num)
  have e : y = ix2 0 (y 1) := by
    rw [eq_ix2 (n0 := 1) (n1 := 128) y]
    exact congrArg (fun a => ix2 (n0 := 1) (n1 := 128) a (y 1)) (Subsingleton.elim (α := Fin 1) _ _)
  unfold G
  rw [hG, ← hv'.unique hw, ← hI]
  exact congrArg I e

end Cert.Steps

end
-- ==== Proof.KernelValue.lean ====
/-
  The kernel's result over extended reals: each row's first column of greatest score.
-/
module

public import proofs.«01_k».proof.Proof.ValueRun
public import proofs.«01_k».proof.Proof.Steps

@[expose] public section

set_option maxRecDepth 16384

noncomputable section

namespace Cert.KernelValue

open Cert.KernelIdeal Cert.KernelIdeal.Gen
open Idealize.ShloMosaic Idealize.ShloMosaic.TcCoe Idealize.SL.Sem

/-- A row of results read as a column. -/
theorem shape_apply {α : Type} (v : S1x128.Idx → α) (r : Fin 128) : shapeCast S128x1 v shapeCasts_S1x128_S128x1 (ix2 r 0) = v (ix2 0 r) := by
  pointwise

/-- The kernel runs, ends with its arguments unchanged, and each row of its result is the first column of greatest score. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (∀ k : Fin 128, r.2.mem ((c.tc : Thread nD τ).loc main_v11) (ix2 (n0 := 128) (n1 := 1) k 0)
        = On_clear_winner.fn_argmax (F := Ideal) (Steps.scores m c) (ix1 k))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨fun k => (congrFun (h c).1 _).trans (shape_apply (Steps.G m c) k), (h c).2⟩)
    (ValueRun.run m ρ (Steps.Q m) (Steps.G m) (fun _ _ _ => .inl rfl) (Steps.step m) (Steps.last m))

end Cert.KernelValue

end
-- ==== Proof.RowReads.lean ====
/-
  The mask's and the reference's whole-array operations at an index, over extended reals.
-/
module

public import proofs.«01_k».proof.Proof.Terms
public import Idealize.ShloMosaic.Lib.Pointwise

@[expose] public section

set_option maxRecDepth 16384

noncomputable section

namespace Cert.RowReads

open Cert.On_clear_winner Cert.On_clear_winner.Facts
open Idealize.ShloMosaic

/-- A row's value at each of its columns. -/
theorem spread_apply {α : Type} (v : S128.Idx → α) (r : Fin 128) (u : Fin 100000) : Terms.spread v (ix2 r u) = v (ix1 r) := by
  pointwise [Terms.spread]

/-- A vector read as a column. -/
theorem col_apply {α : Type} (v : S128.Idx → α) (r : Fin 128) : broadcastInDim S128x1 ![0] bcast_S128_S128x1_0 v (ix2 r 0) = v (ix1 r) := by
  pointwise

/-- One value for every row. -/
theorem one_apply {α : Type} (v : S_.Idx → α) (r : Fin 128) : broadcastInDim S128 ![] bcast_S_S128 v (ix1 r) = v ix0 := by
  pointwise

/-- A row's maximum is the fold of its entries. -/
theorem rowMax_apply (x : FVec Ideal S128x100000 .f32) (r : Fin 128) :
    Terms.rowMax x (ix1 r) = Finset.fold max (Ideal.ofBits .f32 0xFF800000#32) (fun u : Fin 100000 => x (ix2 r u)) Finset.univ := by
  pointwise [Terms.rowMax]

/-- A row's sum. -/
theorem rowSum_apply (x : FVec Ideal S128x100000 .f32) (r : Fin 128) : Terms.rowSum x (ix1 r) = ∑ u : Fin 100000, x (ix2 r u) := by
  pointwise [Terms.rowSum]

/-- The exponential of a logit less the row's maximum. -/
theorem exps_read (L : FVec Ideal S128x100000 .f32) (v : FVec Ideal S128 .f32) (r : Fin 128) (u : Fin 100000) :
    Host.exp (subf L (Terms.spread (maximumf (broadcastInDim S128 ![] bcast_S_S128 (constant S_ .f32 0xFF800000#32)) v))) (ix2 r u)
      = Ideal.exp (L (ix2 r u) - max (Ideal.ofBits .f32 0xFF800000#32) (v (ix1 r))) := by
  pointwise [Terms.spread]

/-- The noise plus the logarithm of the shifted quotient. -/
theorem shifted_read (n E : FVec Ideal S128x100000 .f32) (v : FVec Ideal S128 .f32) (r : Fin 128) (u : Fin 100000) :
    addf n (Host.log (addf (Host.divf E (Terms.spread v)) (broadcastInDim S128x100000 ![] bcast_S_S128x100000 (constant S_ .f32 0x1E3CE508#32)))) (ix2 r u)
      = n (ix2 r u) + Ideal.log (Ideal.div (E (ix2 r u)) (v (ix1 r)) + Ideal.ofBits .f32 0x1E3CE508#32) := by
  pointwise [Terms.spread]

/-- The scores with each row's winner struck out. -/
theorem where_read (v : IVec S128 32) (s : FVec Ideal S128x100000 .f32) (r : Fin 128) (u : Fin 100000) :
    fn_where (cmpi .eq (iotaInDim S128x100000 32 1) (Terms.spread v)) (constant S_ .f32 0xFF800000#32) s (ix2 r u)
      = Scalar.select (IntOp.cmpi .eq (BitVec.ofNat 32 u.val) (v (ix1 r))) (Ideal.ofBits .f32 0xFF800000#32) (s (ix2 r u)) := by
  pointwise [fn_where, Terms.spread]
  rfl

/-- The mask of a row from the three maxima it compares. -/
theorem mask_read (s o a : FVec Ideal S128 .f32) (r : Fin 128) :
    broadcastInDim S128x1 ![0] bcast_S128_S128x1_0 (andi (cmpf .ole a (broadcastInDim S128 ![] bcast_S_S128 (constant S_ .f32 0x41000000#32)))
      (cmpf .olt (addf o (broadcastInDim S128 ![] bcast_S_S128 (constant S_ .f32 0x32800000#32))) s)) (ix2 r 0)
      = IntOp.andi (Ideal.cmp .ole (a (ix1 r)) (Ideal.ofBits .f32 0x41000000#32))
          (Ideal.cmp .olt (o (ix1 r) + Ideal.ofBits .f32 0x32800000#32) (s (ix1 r))) := by
  rw [col_apply]
  change IntOp.andi (Ideal.cmp .ole (a (ix1 r)) (broadcastInDim S128 ![] bcast_S_S128 (constant (F := Ideal) S_ .f32 0x41000000#32) (ix1 r)))
    (Ideal.cmp .olt (o (ix1 r) + broadcastInDim S128 ![] bcast_S_S128 (constant (F := Ideal) S_ .f32 0x32800000#32) (ix1 r)) (s (ix1 r))) = _
  rw [one_apply, one_apply]
  rfl

end Cert.RowReads

end
-- ==== Proof.Mask.lean ====
/-
  What the mask says of a row it selects: its logits are bounded by 8, and its best score leads every other by more than
  2^-26.
-/
module

public import proofs.«01_k».proof.Proof.RowReads
public import proofs.«01_k».proof.Proof.Argmax

@[expose] public section

set_option maxRecDepth 16384

noncomputable section

namespace Cert.Mask

open Cert.On_clear_winner Cert.On_clear_winner.Facts Cert.First
open Idealize.ShloMosaic

variable (X : FVec Ideal S128x1024 .f32) (W : FVec Ideal S1024x100000 .f32) (b : FVec Ideal S100000 .f32)

/-- The scores with each row's winner struck out. -/
def others (s : FVec Ideal S128x100000 .f32) : FVec Ideal S128x100000 .f32 :=
  fn_where (cmpi .eq (iotaInDim S128x100000 32 1) (Terms.spread (fn_argmax (F := Ideal) s))) (constant S_ .f32 0xFF800000#32) s

/-- The mask in the named arrays. -/
theorem fn_eq : On_clear_winner.fn (F := Ideal) X W b
    = broadcastInDim S128x1 ![0] bcast_S128_S128x1_0 (andi
        (cmpf .ole (Terms.rowMax (Host.absf (Terms.logits X W b))) (broadcastInDim S128 ![] bcast_S_S128 (constant S_ .f32 0x41000000#32)))
        (cmpf .olt (addf (Terms.rowMax (others (Terms.scores X W b))) (broadcastInDim S128 ![] bcast_S_S128 (constant S_ .f32 0x32800000#32)))
          (Terms.rowMax (Terms.scores X W b)))) := rfl

/-- An entry is at most its row's maximum. -/
theorem le_rowMax (x : FVec Ideal S128x100000 .f32) (r : Fin 128) (u : Fin 100000) : x (ix2 r u) ≤ Terms.rowMax x (ix1 r) := by
  rw [RowReads.rowMax_apply]
  exact (Finset.le_fold_max _).mpr (.inr ⟨u, Finset.mem_univ u, le_rfl⟩)

/-- A row's maximum is at most what bounds every entry. -/
theorem rowMax_le (x : FVec Ideal S128x100000 .f32) (r : Fin 128) (M : EReal) (h : ∀ u : Fin 100000, x (ix2 r u) ≤ M) :
    Terms.rowMax x (ix1 r) ≤ M := by
  rw [RowReads.rowMax_apply, Argmax.ofBits_bot]
  exact (Finset.fold_max_le _).mpr ⟨bot_le, fun u _ => h u⟩

/-- Away from the winner the struck-out scores are the scores. -/
theorem others_apply (s : FVec Ideal S128x100000 .f32) (r : Fin 128) (u v : Fin 100000)
    (hv : fn_argmax (F := Ideal) s (ix1 r) = BitVec.ofNat 32 v.val) (hu : u ≠ v) : others s (ix2 r u) = s (ix2 r u) := by
  unfold others
  revert hv
  generalize fn_argmax (F := Ideal) s = a
  intro hv
  rw [RowReads.where_read, hv]
  have hne : BitVec.ofNat 32 u.val ≠ BitVec.ofNat 32 v.val := fun e => hu (Fin.ext (by
    have h := congrArg BitVec.toNat e
    rw [BitVec.toNat_ofNat, BitVec.toNat_ofNat, Nat.mod_eq_of_lt (by omega), Nat.mod_eq_of_lt (by omega)] at h
    exact h))
  have hb : (BitVec.ofNat 32 u.val == BitVec.ofNat 32 v.val) = false := beq_eq_false_iff_ne.mpr hne
  simp only [IntOp.cmpi, Scalar.select, hb]
  rfl

/-- A conjunction of two comparisons that is set has both. -/
theorem both {a c d e : EReal} (h : IntOp.andi (Ideal.cmp .ole a c) (Ideal.cmp .olt d e) = 1#1) : a ≤ c ∧ d < e := by
  by_cases h1 : a ≤ c <;> by_cases h2 : d < e <;> simp_all [Ideal.cmp, IntOp.andi]

/-- **The mask on a row it selects.** -/
theorem selects (r : Fin 128) (h : On_clear_winner.fn (F := Ideal) X W b (ix2 r 0) = 1#1) :
    (∀ u : Fin 100000, max (Terms.logits X W b (ix2 r u)) (-(Terms.logits X W b (ix2 r u))) ≤ Ideal.ofBits .f32 0x41000000#32)
    ∧ ∃ v : Fin 100000, fn_argmax (F := Ideal) (Terms.scores X W b) (ix1 r) = BitVec.ofNat 32 v.val
      ∧ ∀ u : Fin 100000, u ≠ v → Terms.scores X W b (ix2 r u) + Ideal.ofBits .f32 0x32800000#32 < Terms.scores X W b (ix2 r v) := by
  have h' := (congrFun (fn_eq X W b) (ix2 r 0)).symm.trans h
  revert h'
  clear h
  generalize Terms.scores X W b = s
  generalize Terms.logits X W b = L
  intro h
  obtain ⟨h1, h2⟩ := both ((RowReads.mask_read (Terms.rowMax s) (Terms.rowMax (others s)) (Terms.rowMax (Host.absf L)) r).symm.trans h)
  refine ⟨fun u => (le_rowMax (Host.absf L) r u).trans h1, ?_⟩
  obtain ⟨v, hv, ha⟩ := Argmax.argmax_spec s r
  refine ⟨⟨v, hv.1⟩, ha, fun u hu => ?_⟩
  have h3 : Terms.rowMax s (ix1 r) ≤ s (ix2 r ⟨v, hv.1⟩) := rowMax_le s r _ fun k => by
    have h4 := hv.2.1 k.val k.isLt
    rwa [Argmax.row_of_lt, show v = (⟨v, hv.1⟩ : Fin 100000).val from rfl, Argmax.row_of_lt] at h4
  have h5 := le_rowMax (others s) r u
  rw [others_apply s r u ⟨v, hv.1⟩ ha hu] at h5
  exact ((add_le_add_left h5 _).trans_lt h2).trans_le h3

end Cert.Mask

end
-- ==== Proof.Gap.lean ====
/-
  Real arithmetic behind the equation: adding 1e-20 to a softmax probability of bounded logits moves its logarithm up by
  at most 2^-26, so a lead greater than that survives.
-/
module

public import Idealize.ShloMosaic.Lib.Pointwise
public import Mathlib.Analysis.Complex.Exponential

@[expose] public section

noncomputable section

namespace Cert.Gap

open Idealize.ShloMosaic

/-- The mask's bound is 8. -/
theorem eight : Ideal.ofBits .f32 0x41000000#32 = ((8 : ℝ) : EReal) := by
  simp [Ideal.ofBits, Ideal.ieee]
  norm_num
  rw [← EReal.coe_mul]
  norm_num

/-- The mask's lead is 2^-26. -/
theorem lead : Ideal.ofBits .f32 0x32800000#32 = (((1 / 2 ^ 26 : ℝ)) : EReal) := by
  simp [Ideal.ofBits, Ideal.ieee]
  norm_num
  rw [← EReal.coe_mul]
  norm_num

/-- The reference's shift is a positive real of at most 1e-20. -/
theorem shift : ∃ e : ℝ, Ideal.ofBits .f32 0x1E3CE508#32 = (e : EReal) ∧ 0 < e ∧ e ≤ 1 / 10 ^ 20 := by
  refine ⟨12379400 / 2 ^ 90, ?_, by positivity, by norm_num⟩
  simp [Ideal.ofBits, Ideal.ieee]
  norm_num
  rw [← EReal.coe_mul]
  norm_num

theorem exp_sixteen : Real.exp 16 ≤ 10 ^ 7 := by
  have h : Real.exp 16 = Real.exp 1 ^ 16 := by rw [← Real.exp_nat_mul]; norm_num
  have h1 : Real.exp 1 ≤ 2.72 := by
    refine (Real.exp_bound' (x := 1) (by norm_num) le_rfl (n := 6) (by norm_num)).trans ?_
    simp only [Finset.sum_range_succ, Finset.sum_range_zero, Nat.factorial]
    norm_num
  rw [h]
  exact (pow_le_pow_left₀ (Real.exp_pos 1).le h1 16).trans (by norm_num)

/-- The shifted logarithm is at most the exact one plus 2^-26. -/
theorem log_le {x S e : ℝ} (hx : -16 ≤ x) (hS : 0 < S) (hS' : S ≤ 100000) (he : 0 < e) (he' : e ≤ 1 / 10 ^ 20) :
    Real.log (Real.exp x / S + e) ≤ x - Real.log S + 1 / 2 ^ 26 := by
  have hp : 0 < Real.exp x / S := div_pos (Real.exp_pos x) hS
  have hexp : 1 / 10 ^ 7 ≤ Real.exp x := by
    refine le_trans ?_ (Real.exp_le_exp.mpr hx)
    rw [Real.exp_neg, ← one_div]
    exact one_div_le_one_div_of_le (Real.exp_pos 16) exp_sixteen
  have hq : 1 / 10 ^ 12 ≤ Real.exp x / S := by
    rw [le_div_iff₀ hS]
    calc 1 / 10 ^ 12 * S ≤ 1 / 10 ^ 12 * 100000 := by gcongr
      _ ≤ 1 / 10 ^ 7 := by norm_num
      _ ≤ Real.exp x := hexp
  have h1 : Real.exp x / S + e ≤ Real.exp x / S * Real.exp (1 / 2 ^ 26) := by
    have h2 : 1 / 2 ^ 26 + 1 ≤ Real.exp (1 / 2 ^ 26) := Real.add_one_le_exp _
    have h3 : e ≤ Real.exp x / S * (1 / 2 ^ 26) := by
      calc e ≤ 1 / 10 ^ 20 := he'
        _ ≤ 1 / 10 ^ 12 * (1 / 2 ^ 26) := by norm_num
        _ ≤ Real.exp x / S * (1 / 2 ^ 26) := by gcongr
    calc Real.exp x / S + e ≤ Real.exp x / S * (1 / 2 ^ 26 + 1) := by linarith
      _ ≤ _ := by gcongr
  refine (Real.log_le_log (by positivity) h1).trans (le_of_eq ?_)
  rw [Real.log_mul hp.ne' (Real.exp_pos _).ne', Real.log_exp, Real.log_div (Real.exp_pos x).ne' hS.ne', Real.log_exp]

/-- The shifted logarithm is at least the exact one. -/
theorem le_log {x S e : ℝ} (hS : 0 < S) (he : 0 < e) : x - Real.log S ≤ Real.log (Real.exp x / S + e) := by
  have hp : 0 < Real.exp x / S := div_pos (Real.exp_pos x) hS
  have h := Real.log_le_log hp (le_add_of_nonneg_right he.le : Real.exp x / S ≤ Real.exp x / S + e)
  rwa [Real.log_div (Real.exp_pos x).ne' hS.ne', Real.log_exp] at h

/-- A lead greater than the movement survives it, whatever extended reals the noise is. -/
theorem survives {l l' a a' d c : ℝ} {g g' : EReal} (h : (l : EReal) + g + (d : ℝ) < (l' : EReal) + g') (ha : a ≤ l - c + d)
    (ha' : l' - c ≤ a') : g + (a : EReal) < g' + (a' : EReal) := by
  induction g' using EReal.rec with
  | bot => rw [EReal.add_bot] at h; exact absurd h not_lt_bot
  | top =>
    rw [EReal.top_add_coe]
    induction g using EReal.rec with
    | bot => rw [EReal.bot_add]; exact bot_lt_top
    | top => rw [EReal.coe_add_top, EReal.top_add_coe] at h; exact absurd h not_top_lt
    | coe x => exact_mod_cast EReal.coe_lt_top (x + a)
  | coe y =>
    induction g using EReal.rec with
    | bot => rw [EReal.bot_add]; exact_mod_cast EReal.bot_lt_coe (y + a')
    | top => rw [EReal.coe_add_top, EReal.top_add_coe] at h; exact absurd h not_top_lt
    | coe x =>
      have h' : l + x + d < l' + y := by exact_mod_cast h
      have : x + a < y + a' := by linarith
      exact_mod_cast this

/-- A number whose absolute value is at most 8 is a real in [-8, 8]. -/
theorem bounded {z : EReal} (h : max z (-z) ≤ ((8 : ℝ) : EReal)) : ∃ l : ℝ, z = l ∧ -8 ≤ l ∧ l ≤ 8 := by
  obtain ⟨h1, h2⟩ := max_le_iff.mp h
  induction z using EReal.rec with
  | bot => rw [EReal.neg_bot] at h2; exact absurd (EReal.coe_lt_top 8) (not_lt.mpr h2)
  | top => exact absurd (EReal.coe_lt_top 8) (not_lt.mpr h1)
  | coe l =>
    refine ⟨l, rfl, ?_, by exact_mod_cast h1⟩
    have : -l ≤ 8 := by exact_mod_cast h2
    linarith

/-- The exponential of a logit less the maximum, divided by the sum, shifted, and its logarithm, on reals. -/
theorem log_term (x S e : ℝ) (hS : 0 < S) (he : 0 < e) :
    Ideal.log (Ideal.div ((Real.exp x : ℝ) : EReal) (S : EReal) + (e : EReal)) = ((Real.log (Real.exp x / S + e) : ℝ) : EReal) := by
  rw [Ideal.div_coe hS.ne', ← EReal.coe_mul, ← EReal.coe_add, Ideal.log_coe, mul_one_div, if_neg]
  exact not_le.mpr (add_pos (div_pos (Real.exp_pos x) hS) he)

/-- **The gap.** For a row of bounded logits whose best noisy logit leads every other by more than 2^-26, the same column leads
    strictly once the logits are replaced by the logarithms of their shifted softmax. -/
theorem gap (L g : Fin 100000 → EReal) (M : EReal) (v : Fin 100000) (hL : ∀ u, max (L u) (-(L u)) ≤ Ideal.ofBits .f32 0x41000000#32)
    (hM : ∀ u, L u ≤ M) (hM' : ∃ u, M = L u) (hv : ∀ u, u ≠ v → L u + g u + Ideal.ofBits .f32 0x32800000#32 < L v + g v) (u : Fin 100000)
    (hu : u ≠ v) :
    g u + Ideal.log (Ideal.div (Ideal.exp (L u - M)) (∑ k, Ideal.exp (L k - M)) + Ideal.ofBits .f32 0x1E3CE508#32)
      < g v + Ideal.log (Ideal.div (Ideal.exp (L v - M)) (∑ k, Ideal.exp (L k - M)) + Ideal.ofBits .f32 0x1E3CE508#32) := by
  obtain ⟨e, he, he0, he1⟩ := shift
  rw [eight] at hL
  choose l hl hl1 hl2 using fun k => bounded (hL k)
  obtain ⟨w, hw⟩ := hM'
  rw [hl w] at hw
  have hterm : ∀ k, Ideal.exp (L k - M) = ((Real.exp (l k - l w) : ℝ) : EReal) := fun k => by
    rw [hl k, hw, ← EReal.coe_sub, Ideal.exp_coe]
  have hle : ∀ k, l k ≤ l w := fun k => by
    have := hM k
    rw [hl k, hw] at this
    exact_mod_cast this
  have hsum : ∑ k, Ideal.exp (L k - M) = ((∑ k, Real.exp (l k - l w) : ℝ) : EReal) := by
    rw [Finset.sum_congr rfl fun k _ => hterm k]
    exact (map_sum (⟨⟨fun x : ℝ => (x : EReal), rfl⟩, EReal.coe_add⟩ : ℝ →+ EReal) _ _).symm
  have hS : 0 < ∑ k, Real.exp (l k - l w) := Finset.sum_pos (fun k _ => Real.exp_pos _) ⟨w, Finset.mem_univ w⟩
  have hS' : ∑ k, Real.exp (l k - l w) ≤ 100000 := by
    refine (Finset.sum_le_card_nsmul Finset.univ _ 1 fun k _ => ?_).trans (by simp)
    exact Real.exp_le_one_iff.mpr (sub_nonpos.mpr (hle k))
  rw [hsum, hterm u, hterm v, he, log_term _ _ _ hS he0, log_term _ _ _ hS he0]
  have h := hv u hu
  rw [lead, hl u, hl v] at h
  refine survives (c := l w + Real.log (∑ k, Real.exp (l k - l w))) h ?_ ?_
  · refine (log_le (x := l u - l w) (by linarith [hl1 u, hl2 w]) hS hS' he0 he1).trans (le_of_eq (by ring))
  · exact (le_of_eq (by ring)).trans (le_log (x := l v - l w) hS he0)

end Cert.Gap

end
-- ==== Proof.Equation.lean ====
/-
  The equation: on a row the mask selects, the reference's sample is the kernel's.
-/
module

public import proofs.«01_k».proof.Proof.Mask
public import proofs.«01_k».proof.Proof.Logits
public import proofs.«01_k».proof.Proof.Gap

@[expose] public section

set_option maxRecDepth 16384

noncomputable section

namespace Cert.Equation

open Cert.On_clear_winner Cert.On_clear_winner.Facts Cert.First
open Idealize.ShloMosaic

/-- The number a row's exponentials are taken less of: its largest logit. -/
def top (L : FVec Ideal S128x100000 .f32) (r : Fin 128) : EReal := max (Ideal.ofBits .f32 0xFF800000#32) (Terms.rowMax L (ix1 r))

theorem le_top (L : FVec Ideal S128x100000 .f32) (r : Fin 128) (u : Fin 100000) : L (ix2 r u) ≤ top L r :=
  (Mask.le_rowMax L r u).trans (le_max_right _ _)

/-- The largest logit is one of them. -/
theorem top_mem (L : FVec Ideal S128x100000 .f32) (r : Fin 128) : ∃ u : Fin 100000, top L r = L (ix2 r u) := by
  obtain ⟨u, -, hu⟩ := Finset.exists_max_image (Finset.univ : Finset (Fin 100000)) (fun k => L (ix2 r k)) ⟨⟨0, by norm_num⟩, Finset.mem_univ _⟩
  refine ⟨u, le_antisymm ?_ (le_top L r u)⟩
  exact max_le (by rw [Argmax.ofBits_bot]; exact bot_le) (Mask.rowMax_le L r _ fun k => hu k (Finset.mem_univ k))

theorem exps_apply (L : FVec Ideal S128x100000 .f32) (r : Fin 128) (u : Fin 100000) :
    Terms.exps L (ix2 r u) = Ideal.exp (L (ix2 r u) - top L r) := RowReads.exps_read L (Terms.rowMax L) r u

/-- The reference's score at a column. -/
theorem refScores_apply (L : FVec Ideal S128x100000 .f32) (r : Fin 128) (u : Fin 100000) :
    Terms.refScores L (ix2 r u) = Terms.noise (F := Ideal) (ix2 r u)
      + Ideal.log (Ideal.div (Ideal.exp (L (ix2 r u) - top L r)) (∑ k : Fin 100000, Ideal.exp (L (ix2 r k) - top L r))
        + Ideal.ofBits .f32 0x1E3CE508#32) := by
  unfold Terms.refScores
  generalize Terms.noise (F := Ideal) = n
  refine (RowReads.shifted_read n (Terms.exps L) (Terms.rowSum (Terms.exps L)) r u).trans ?_
  rw [RowReads.rowSum_apply, exps_apply, Finset.sum_congr rfl fun k _ => exps_apply L r k]

/-- **The equation.** On a row the mask selects, the reference's sample is the first column of greatest score. -/
theorem refOut_eq (X : FVec Ideal S128x1024 .f32) (W : FVec Ideal S1024x100000 .f32) (b : FVec Ideal S100000 .f32) (r : Fin 128)
    (h : On_clear_winner.fn (F := Ideal) X W b (ix2 r 0) = 1#1) :
    Terms.refOut X W b (ix2 r 0) = fn_argmax (F := Ideal) (Terms.scores X W b) (ix1 r) := by
  obtain ⟨hL, v, hv, hlead⟩ := Mask.selects X W b r h
  have hlt : ∀ u : Fin 100000, u ≠ v → Terms.refScores (Terms.logits X W b) (ix2 r u) < Terms.refScores (Terms.logits X W b) (ix2 r v) := by
    intro u hu
    rw [refScores_apply, refScores_apply]
    refine Gap.gap (fun k => Terms.logits X W b (ix2 r k)) (fun k => Terms.noise (F := Ideal) (ix2 r k)) (top (Terms.logits X W b) r) v hL
      (le_top _ r) (top_mem _ r) (fun k hk => ?_) u hu
    have h1 := hlead k hk
    rwa [Logits.scores_apply, Logits.scores_apply] at h1
  have hfirst : IsFirst 100000 (Argmax.row (Terms.refScores (Terms.logits X W b)) r) v.val := isFirst_of_lt v.isLt fun u hu hne => by
    have h1 := hlt ⟨u, hu⟩ fun e => hne (congrArg Fin.val e)
    rw [Argmax.row_of_lt _ r v]
    exact (Argmax.row_of_lt _ r ⟨u, hu⟩).trans_lt h1
  rw [hv]
  unfold Terms.refOut
  generalize Terms.refScores (Terms.logits X W b) = s at hfirst
  obtain ⟨w, hw, ha⟩ := Argmax.argmax_spec s r
  refine (RowReads.col_apply (fn_argmax (F := Ideal) s) r).trans (ha.trans ?_)
  rw [hw.unique hfirst]

end Cert.Equation

end
-- ==== Proof.lean ====
/-
  The claim, assembled: the three frames, the preservation, and the equation on the rows the mask selects.
-/
module

public import proofs.«01_k».proof.Defs
public import proofs.«01_k».proof.Proof.FrameKernel
public import proofs.«01_k».proof.Proof.RefRun
public import proofs.«01_k».proof.Proof.KernelValue
public import proofs.«01_k».proof.Proof.Equation

@[expose] public section

noncomputable section

namespace Cert.Proof

open Idealize.ShloMosaic Idealize.ShloMosaic.TcCoe Idealize.SL.Sem

/-- The kernel over extended reals runs, keeps its arguments and ends quiescent. -/
theorem frame_ideal : Cert.quiescent_KernelIdeal (hKernelIdeal := Cert.KernelIdeal.Gen.facts) :=
  fun m ρ _ => Cert.FrameRun.frame (F := Ideal) m ρ

/-- So does the reference. -/
theorem frame_reference : Cert.quiescent_ReferenceIdeal (hReferenceIdeal := Cert.ReferenceIdeal.Gen.facts) :=
  fun m ρ _ => (θ_run _ _ _).mono (fun _ h => ⟨fun c => (h.1 c).2, h.2⟩) (Cert.RefRun.run (F := Ideal) m ρ)

/-- Every index of a column is a row's. -/
theorem idx_eq (i : (⟨2, ![128, 1]⟩ : Shape).Idx) : i = ix2 (n0 := 128) (n1 := 1) (i 0) 0 := by
  rw [eq_ix2 (n0 := 128) (n1 := 1) i]
  exact congrArg (fun a => ix2 (n0 := 128) (n1 := 1) (i 0) a) (Subsingleton.elim (α := Fin 1) _ _)

/-- On the rows the mask selects the kernel's result and the reference's are the same sample. -/
theorem equation : Cert.algebraic_KernelIdeal_ReferenceIdeal_on_clear_winner (hKernelIdeal := Cert.KernelIdeal.Gen.facts)
    (hReferenceIdeal := Cert.ReferenceIdeal.Gen.facts) (hOn_clear_winner := Cert.MaskFacts.facts) := by
  intro m g m' g' _ hm
  refine ⟨fun c => Terms.refOut (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun r h c => ⟨fun i hi => ?_, (h c).2⟩) (Cert.KernelValue.run m g)
    rw [idx_eq i] at hi ⊢
    exact ((h c).1 (i 0)).trans (Cert.Equation.refOut_eq _ _ _ (i 0) hi).symm
  · refine (θ_run _ _ _).mono (fun r h c => ⟨fun i _ => ?_, (h.1 c).2⟩) (Cert.RefRun.run (F := Ideal) m' g')
    rw [(h.1 c).1, (hm c).1, (hm c).2.1, (hm c).2.2]

/-- The certificate. -/
theorem claim : Cert.Claim :=
  ⟨Cert.Kernel.Gen.facts, Cert.KernelIdeal.Gen.facts, Cert.ReferenceIdeal.Gen.facts, Cert.MaskFacts.facts, Cert.FrameKernel.frame_k,
    frame_ideal, frame_reference, True.intro, equation⟩

end Cert.Proof

end
